-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x1024 : Shape := ⟨2, ![512, 1024]⟩
abbrev S1024x512 : Shape := ⟨2, ![1024, 512]⟩
abbrev S3x128x512 : Shape := ⟨3, ![3, 128, 512]⟩
abbrev S128x512 : Shape := ⟨2, ![128, 512]⟩
abbrev S3 : Shape := ⟨1, ![3]⟩
abbrev S_ : Shape := ⟨0, ![]⟩
abbrev S128x1024 : Shape := ⟨2, ![128, 1024]⟩
abbrev S1x128x512 : Shape := ⟨3, ![1, 128, 512]⟩
abbrev S1 : Shape := ⟨1, ![1]⟩

abbrev nBuf : Space → Nat
  | .hbm => 4
  | .vmem => 8
  | .smem => 0
  | _ => 0

abbrev bufTy : (tb : Table) → Fin (tcTables nBuf tb) → BufTy
  | .hbm, ⟨0, _⟩ => ⟨S512x512, .bf16⟩
  | .hbm, ⟨1, _⟩ => ⟨S512x1024, .bf16⟩
  | .hbm, ⟨2, _⟩ => ⟨S1024x512, .bf16⟩
  | .hbm, ⟨3, _⟩ => ⟨S512x512, .f32⟩
  | .local _ .vmem, ⟨0, _⟩ => ⟨S512x512, .bf16⟩
  | .local _ .vmem, ⟨1, _⟩ => ⟨S512x1024, .bf16⟩
  | .local _ .vmem, ⟨2, _⟩ => ⟨S1024x512, .bf16⟩
  | .local _ .vmem, ⟨3, _⟩ => ⟨S512x512, .f32⟩
  | .local _ .vmem, ⟨4, _⟩ => ⟨S3x128x512, .bf16⟩
  | .local _ .vmem, ⟨5, _⟩ => ⟨S3x128x512, .bf16⟩
  | .local _ .vmem, ⟨6, _⟩ => ⟨S128x512, .bf16⟩
  | .local _ .vmem, ⟨7, _⟩ => ⟨S3x128x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_31 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v47 : BitVec 32 := Scalar.addi v2 c1_i32_31
  let c4_i32_32 : BitVec 32 := 4#32
  let c0_i32_33 : BitVec 32 := 0#32
  let v48 : BitVec 1 := Scalar.cmpi .eq c4_i32_32 c0_i32_33
  let c1_i32_34 : BitVec 32 := 1#32
  let v49 : BitVec 32 := Scalar.select v48 c1_i32_34 c4_i32_32
  let v50 : BitVec 32 := Scalar.remsi v47 v49
  let c0_i32_36 : BitVec 32 := 0#32
  let v52 : BitVec 1 := Scalar.cmpi .slt v50 c0_i32_36
  let c0_i32_37 : BitVec 32 := 0#32
  let v53 : BitVec 1 := Scalar.cmpi .slt v49 c0_i32_37
  let v54 : BitVec 1 := Scalar.xori v52 v53
  let c0_i32_35 : BitVec 32 := 0#32
  let v51 : BitVec 1 := Scalar.cmpi .ne v50 c0_i32_35
  let v55 : BitVec 1 := Scalar.andi v54 v51
  let v56 : BitVec 32 := Scalar.addi v50 v49
  let v57 : BitVec 32 := Scalar.select v55 v56 v50
  let c128_i32 : BitVec 32 := 128#32
  let v58 : BitVec 32 := Scalar.muli v57 c128_i32
  let v59 : Index := Scalar.indexCast v58
  let c0_38 : Index := 0#32
  ![v59.toNat, 0]
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v47 : BitVec 32 := Scalar.addi v2 c1_i32_31
  let c4_i32_32 : BitVec 32 := 4#32
  let c0_i32_33 : BitVec 32 := 0#32
  let v48 : BitVec 1 := Scalar.cmpi .eq c4_i32_32 c0_i32_33
  let c1_i32_34 : BitVec 32 := 1#32
  let v49 : BitVec 32 := Scalar.select v48 c1_i32_34 c4_i32_32
  let v50 : BitVec 32 := Scalar.remsi v47 v49
  let c0_i32_36 : BitVec 32 := 0#32
  let v52 : BitVec 1 := Scalar.cmpi .slt v50 c0_i32_36
  let c0_i32_37 : BitVec 32 := 0#32
  let v53 : BitVec 1 := Scalar.cmpi .slt v49 c0_i32_37
  let v54 : BitVec 1 := Scalar.xori v52 v53
  let c0_i32_35 : BitVec 32 := 0#32
  let v51 : BitVec 1 := Scalar.cmpi .ne v50 c0_i32_35
  let v55 : BitVec 1 := Scalar.andi v54 v51
  let v56 : BitVec 32 := Scalar.addi v50 v49
  let v57 : BitVec 32 := Scalar.select v55 v56 v50
  let c1_i32_48 : BitVec 32 := 1#32
  let v71 : BitVec 32 := Scalar.muli v57 c1_i32_48
  let v72 : BitVec 32 := Scalar.addi c0_i32_49 v71
  v72.toNat
def k0_dev5 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_54 : BitVec 32 := 2#32
  let v81 : BitVec 32 := Scalar.addi v2 c2_i32_54
  let c4_i32_55 : BitVec 32 := 4#32
  let c0_i32_56 : BitVec 32 := 0#32
  let v82 : BitVec 1 := Scalar.cmpi .eq c4_i32_55 c0_i32_56
  let c1_i32_57 : BitVec 32 := 1#32
  let v83 : BitVec 32 := Scalar.select v82 c1_i32_57 c4_i32_55
  let v84 : BitVec 32 := Scalar.remsi v81 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  let c1_i32_72 : BitVec 32 := 1#32
  let v105 : BitVec 32 := Scalar.muli v91 c1_i32_72
  let v106 : BitVec 32 := Scalar.addi c0_i32_73 v105
  v106.toNat
def k0_dev6 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_78 : BitVec 32 := 3#32
  let v115 : BitVec 32 := Scalar.addi v2 c3_i32_78
  let c4_i32_79 : BitVec 32 := 4#32
  let c0_i32_80 : BitVec 32 := 0#32
  let v116 : BitVec 1 := Scalar.cmpi .eq c4_i32_79 c0_i32_80
  let c1_i32_81 : BitVec 32 := 1#32
  let v117 : BitVec 32 := Scalar.select v116 c1_i32_81 c4_i32_79
  let v118 : BitVec 32 := Scalar.remsi v115 v117
  let c0_i32_83 : BitVec 32 := 0#32
  let v120 : BitVec 1 := Scalar.cmpi .slt v118 c0_i32_83
  let c0_i32_84 : BitVec 32 := 0#32
  let v121 : BitVec 1 := Scalar.cmpi .slt v117 c0_i32_84
  let v122 : BitVec 1 := Scalar.xori v120 v121
  let c0_i32_82 : BitVec 32 := 0#32
  let v119 : BitVec 1 := Scalar.cmpi .ne v118 c0_i32_82
  let v123 : BitVec 1 := Scalar.andi v122 v119
  let v124 : BitVec 32 := Scalar.addi v118 v117
  let v125 : BitVec 32 := Scalar.select v123 v124 v118
  let c1_i32_96 : BitVec 32 := 1#32
  let v139 : BitVec 32 := Scalar.muli v125 c1_i32_96
  let v140 : BitVec 32 := Scalar.addi c0_i32_97 v139
  v140.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_102 : BitVec 32 := 128#32
  let v149 : BitVec 32 := Scalar.muli v2 c128_i32_102
  let v150 : Index := Scalar.indexCast v149
  let c0_103 : Index := 0#32
  ![v150.toNat, 0]
def k0_dev7 (d0 : Dev nD) : Nat :=
  let c0_i32_161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_150 : BitVec 32 := 1#32
  let v201 : BitVec 32 := Scalar.addi v2 c1_i32_150
  let c4_i32_151 : BitVec 32 := 4#32
  let c0_i32_152 : BitVec 32 := 0#32
  let v202 : BitVec 1 := Scalar.cmpi .eq c4_i32_151 c0_i32_152
  let c1_i32_153 : BitVec 32 := 1#32
  let v203 : BitVec 32 := Scalar.select v202 c1_i32_153 c4_i32_151
  let v204 : BitVec 32 := Scalar.remsi v201 v203
  let c0_i32_155 : BitVec 32 := 0#32
  let v206 : BitVec 1 := Scalar.cmpi .slt v204 c0_i32_155
  let c0_i32_156 : BitVec 32 := 0#32
  let v207 : BitVec 1 := Scalar.cmpi .slt v203 c0_i32_156
  let v208 : BitVec 1 := Scalar.xori v206 v207
  let c0_i32_154 : BitVec 32 := 0#32
  let v205 : BitVec 1 := Scalar.cmpi .ne v204 c0_i32_154
  let v209 : BitVec 1 := Scalar.andi v208 v205
  let v210 : BitVec 32 := Scalar.addi v204 v203
  let v211 : BitVec 32 := Scalar.select v209 v210 v204
  let c1_i32_160 : BitVec 32 := 1#32
  let v212 : BitVec 32 := Scalar.muli v211 c1_i32_160
  let v213 : BitVec 32 := Scalar.addi c0_i32_161 v212
  v213.toNat
def k0_dev8 (d0 : Dev nD) : Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_164 : BitVec 32 := 2#32
  let v220 : BitVec 32 := Scalar.addi v2 c2_i32_164
  let c4_i32_165 : BitVec 32 := 4#32
  let c0_i32_166 : BitVec 32 := 0#32
  let v221 : BitVec 1 := Scalar.cmpi .eq c4_i32_165 c0_i32_166
  let c1_i32_167 : BitVec 32 := 1#32
  let v222 : BitVec 32 := Scalar.select v221 c1_i32_167 c4_i32_165
  let v223 : BitVec 32 := Scalar.remsi v220 v222
  let c0_i32_169 : BitVec 32 := 0#32
  let v225 : BitVec 1 := Scalar.cmpi .slt v223 c0_i32_169
  let c0_i32_170 : BitVec 32 := 0#32
  let v226 : BitVec 1 := Scalar.cmpi .slt v222 c0_i32_170
  let v227 : BitVec 1 := Scalar.xori v225 v226
  let c0_i32_168 : BitVec 32 := 0#32
  let v224 : BitVec 1 := Scalar.cmpi .ne v223 c0_i32_168
  let v228 : BitVec 1 := Scalar.andi v227 v224
  let v229 : BitVec 32 := Scalar.addi v223 v222
  let v230 : BitVec 32 := Scalar.select v228 v229 v223
  let c1_i32_174 : BitVec 32 := 1#32
  let v231 : BitVec 32 := Scalar.muli v230 c1_i32_174
  let v232 : BitVec 32 := Scalar.addi c0_i32_175 v231
  v232.toNat
def k0_dev9 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_178 : BitVec 32 := 3#32
  let v239 : BitVec 32 := Scalar.addi v2 c3_i32_178
  let c4_i32_179 : BitVec 32 := 4#32
  let c0_i32_180 : BitVec 32 := 0#32
  let v240 : BitVec 1 := Scalar.cmpi .eq c4_i32_179 c0_i32_180
  let c1_i32_181 : BitVec 32 := 1#32
  let v241 : BitVec 32 := Scalar.select v240 c1_i32_181 c4_i32_179
  let v242 : BitVec 32 := Scalar.remsi v239 v241
  let c0_i32_183 : BitVec 32 := 0#32
  let v244 : BitVec 1 := Scalar.cmpi .slt v242 c0_i32_183
  let c0_i32_184 : BitVec 32 := 0#32
  let v245 : BitVec 1 := Scalar.cmpi .slt v241 c0_i32_184
  let v246 : BitVec 1 := Scalar.xori v244 v245
  let c0_i32_182 : BitVec 32 := 0#32
  let v243 : BitVec 1 := Scalar.cmpi .ne v242 c0_i32_182
  let v247 : BitVec 1 := Scalar.andi v246 v243
  let v248 : BitVec 32 := Scalar.addi v242 v241
  let v249 : BitVec 32 := Scalar.select v247 v248 v242
  let c1_i32_188 : BitVec 32 := 1#32
  let v250 : BitVec 32 := Scalar.muli v249 c1_i32_188
  let v251 : BitVec 32 := Scalar.addi c0_i32_189 v250
  v251.toNat
def k0_off3 (d0 : Dev nD) (c1_i32_199 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v264 : BitVec 32 := Scalar.subi v2 c1_i32_199
  let c4_i32_200 : BitVec 32 := 4#32
  let c0_i32_201 : BitVec 32 := 0#32
  let v265 : BitVec 1 := Scalar.cmpi .eq c4_i32_200 c0_i32_201
  let c1_i32_202 : BitVec 32 := 1#32
  let v266 : BitVec 32 := Scalar.select v265 c1_i32_202 c4_i32_200
  let v267 : BitVec 32 := Scalar.remsi v264 v266
  let c0_i32_204 : BitVec 32 := 0#32
  let v269 : BitVec 1 := Scalar.cmpi .slt v267 c0_i32_204
  let c0_i32_205 : BitVec 32 := 0#32
  let v270 : BitVec 1 := Scalar.cmpi .slt v266 c0_i32_205
  let v271 : BitVec 1 := Scalar.xori v269 v270
  let c0_i32_203 : BitVec 32 := 0#32
  let v268 : BitVec 1 := Scalar.cmpi .ne v267 c0_i32_203
  let v272 : BitVec 1 := Scalar.andi v271 v268
  let v273 : BitVec 32 := Scalar.addi v267 v266
  let v274 : BitVec 32 := Scalar.select v272 v273 v267
  let c128_i32_209 : BitVec 32 := 128#32
  let v278 : BitVec 32 := Scalar.muli v274 c128_i32_209
  let v279 : Index := Scalar.indexCast v278
  let c0_210 : Index := 0#32
  ![v279.toNat, 0]
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x512 : Shape := ⟨2, ![512, 512]⟩
abbrev S512x4096 : Shape := ⟨2, ![512, 4096]⟩
abbrev S4096x512 : Shape := ⟨2, ![4096, 512]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S512x512, .bf16⟩
  | .hbm, ⟨1, _⟩ => ⟨S512x4096, .bf16⟩
  | .hbm, ⟨2, _⟩ => ⟨S4096x512, .bf16⟩
  | .hbm, ⟨3, _⟩ => ⟨S512x4096, .f32⟩
  | .hbm, ⟨4, _⟩ => ⟨S512x4096, .bf16⟩
  | .hbm, ⟨5, _⟩ => ⟨S_, .bf16⟩
  | .hbm, ⟨6, _⟩ => ⟨S512x4096, .bf16⟩
  | .hbm, ⟨7, _⟩ => ⟨S512x4096, .bf16⟩
  | .hbm, ⟨8, _⟩ => ⟨S512x512, .f32⟩
  | .hbm, ⟨9, _⟩ => ⟨S512x512, .bf16⟩
  | .hbm, ⟨10, _⟩ => ⟨S512x512, .f32⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Devices.lean ====
/-
The mesh, the memory and the semaphores of the two-layer kernel, named for the proof.

Four devices stand on a ring. Device `c` talks to the three others, and the code numbers them by their
distance: its exchange number `k` (`k = 0, 1, 2`) is with the device `k + 1` places on. Everything below is
stated for a symbolic `k`, so that each fact about an exchange is proved once and used for the three of them.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Value
public import Idealize.ShloMosaic.Lib.Pipeline.Kit
public import Idealize.ShloMosaic.Lib.MemrefSat
public import Idealize.ShloMosaic.Lib.Tactic

@[expose] public section

noncomputable section

namespace Cert.TwoLayer

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

set_option backward.proofsInPublic true in
/-- The device `k + 1` places after `c`. -/
def sh (k : Fin 3) (c : Dev nD) : Dev nD := ⟨(c.val + (k.val + 1)) % 4, Nat.mod_lt _ (by decide)⟩
set_option backward.proofsInPublic true in
/-- The device `k + 1` places before `c`. -/
def bk (k : Fin 3) (c : Dev nD) : Dev nD := ⟨(c.val + (3 - k.val)) % 4, Nat.mod_lt _ (by decide)⟩
set_option backward.proofsInPublic true in
/-- Going `k + 1` places back is going `rev k + 1` places on. -/
def rev (k : Fin 3) : Fin 3 := ⟨2 - k.val, by omega⟩

theorem bk_sh (k : Fin 3) (c : Dev nD) : bk k (sh k c) = c := by revert k c; decide
theorem sh_bk (k : Fin 3) (c : Dev nD) : sh k (bk k c) = c := by revert k c; decide
theorem sh_rev (k : Fin 3) (c : Dev nD) : sh (rev k) c = bk k c := by revert k c; decide
theorem bk_rev (k : Fin 3) (c : Dev nD) : bk (rev k) c = sh k c := by revert k c; decide
theorem rev_rev (k : Fin 3) : rev (rev k) = k := by revert k; decide

/-- The shift by `k + 1` places, as a permutation of the devices. -/
def shift (k : Fin 3) : Dev nD ≃ Dev nD := ⟨sh k, bk k, bk_sh k, sh_bk k⟩

/-- The devices the three signals, the three first copies and the three second copies address. -/
theorem dev_eq (c : Dev nD) :
    (⟨k0_dev1 c, k0_dev1_lt c⟩ : Dev nD) = sh 0 c ∧ (⟨k0_dev2 c, k0_dev2_lt c⟩ : Dev nD) = sh 1 c
      ∧ (⟨k0_dev3 c, k0_dev3_lt c⟩ : Dev nD) = sh 2 c ∧ (⟨k0_dev4 c, k0_dev4_lt c⟩ : Dev nD) = sh 0 c
      ∧ (⟨k0_dev5 c, k0_dev5_lt c⟩ : Dev nD) = sh 1 c ∧ (⟨k0_dev6 c, k0_dev6_lt c⟩ : Dev nD) = sh 2 c
      ∧ (⟨k0_dev7 c, k0_dev7_lt c⟩ : Dev nD) = sh 0 c ∧ (⟨k0_dev8 c, k0_dev8_lt c⟩ : Dev nD) = sh 1 c
      ∧ (⟨k0_dev9 c, k0_dev9_lt c⟩ : Dev nD) = sh 2 c := by
  revert c; decide +kernel

/-! ## Row blocks -/

theorem rows_inb (j : Dev nD) : ∀ a, (![128 * j.val, 0] : Fin 2 → Nat) a + S128x512.size a ≤ S512x512.size a := by
  revert j; decide

/-- Rows `128 j … 128 j + 127` of a 512×512 array: device `j`'s share of the result. -/
abbrev rowsR (j : Dev nD) : Rect S512x512 := Rect.unit (s := S512x512) ![128 * j.val, 0] S128x512.size (rows_inb j)

theorem off1_eq (c : Dev nD) (k : Fin 3) : k0_off1 c (BitVec.ofNat 32 (1 + k.val)) = ![128 * (sh k c).val, 0] := by
  revert k c; decide +kernel
theorem off3_eq (c : Dev nD) (k : Fin 3) : k0_off3 c (BitVec.ofNat 32 (1 + k.val)) = ![128 * (bk k c).val, 0] := by
  revert k c; decide +kernel

/-- The rows device `c` reads for its exchange `k` are those of the device `k + 1` places on. -/
theorem off1_rect (c : Dev nD) (k : Fin 3) :
    Rect.unit (s := S512x512) (k0_off1 c (BitVec.ofNat 32 (1 + k.val))) S128x512.size (k0_off1_inb c k) = rowsR (sh k c) :=
  Rect.unit_congr (off1_eq c k) _ _
/-- The rows it works on itself and keeps are its own. -/
theorem off2_rect (c : Dev nD) : Rect.unit (s := S512x512) (k0_off2 c) S128x512.size (k0_off2_inb c) = rowsR c :=
  Rect.unit_congr (k0_off2_eq c) _ _
/-- The rows it fills from arrival `k` are those of the device `k + 1` places back. -/
theorem off3_rect (c : Dev nD) (k : Fin 3) :
    Rect.unit (s := S512x512) (k0_off3 c (BitVec.ofNat 32 (1 + k.val))) S128x512.size (k0_off3_inb c k) = rowsR (bk k c) :=
  Rect.unit_congr (off3_eq c k) _ _

/-! ## Slots -/

theorem slot_inb (k : Fin 3) : ∀ a, (![k.val, 0, 0] : Fin 3 → Nat) a + S1x128x512.size a ≤ S3x128x512.size a := by
  revert k; decide

/-- Slot `k` of a buffer of three blocks. -/
abbrev slotR (k : Fin 3) : Rect S3x128x512 := Rect.unit (s := S3x128x512) ![k.val, 0, 0] S1x128x512.size (slot_inb k)
/-- The same as a 128×512 memref: what a copy reads or fills. -/
abbrev slotM (m : Memref sig .tc .vmem S3x128x512 .bf16) (k : Fin 3) : Memref sig .tc .vmem S128x512 .bf16 :=
  (m.slice (slotR k) (fun _ => rfl)).squeeze S128x512 squeezes_S1x128x512_S128x512

theorem slot_disjoint (k k' : Fin 3) (h : k ≠ k') : Disjoint (slotR k).set (slotR k').set :=
  Rect.unit_disjoint 0 (by
    have : k.val ≠ k'.val := fun e => h (Fin.ext e)
    show k.val + 1 ≤ k'.val ∨ k'.val + 1 ≤ k.val
    omega)

theorem slot_cover : (Finset.univ : Finset (Fin 3)).biUnion (fun k => (slotR k).set) = Finset.univ := by
  refine Finset.eq_univ_iff_forall.mpr fun i => Finset.mem_biUnion.mpr ⟨⟨(i 0).val, (i 0).isLt⟩, Finset.mem_univ _, ?_⟩
  refine Rect.mem_set_unit.mpr fun a => ?_
  match a with
  | ⟨0, _⟩ => exact ⟨le_rfl, Nat.lt_succ_self _⟩
  | ⟨1, _⟩ => exact ⟨Nat.zero_le _, (Nat.zero_add _).symm ▸ (i 1).isLt⟩
  | ⟨2, _⟩ => exact ⟨Nat.zero_le _, (Nat.zero_add _).symm ▸ (i 2).isLt⟩

/-! ## The memrefs -/

/-- The staged operands and result. -/
abbrev xM : Memref sig .tc .vmem S512x512 .bf16 := Memref.whole cc0_stg0_0
abbrev w1M : Memref sig .tc .vmem S512x1024 .bf16 := Memref.whole cc0_stg1_0
abbrev w2M : Memref sig .tc .vmem S1024x512 .bf16 := Memref.whole cc0_stg2_0
abbrev oM : Memref sig .tc .vmem S512x512 .f32 := Memref.whole cc0_stg3_0
/-- The blocks sent in the first phase, those received in it, the reduced block, those received in the second. -/
abbrev sendM : Memref sig .tc .vmem S3x128x512 .bf16 := Memref.whole cc0_scratch0
abbrev recvM : Memref sig .tc .vmem S3x128x512 .bf16 := Memref.whole cc0_scratch1
abbrev redM : Memref sig .tc .vmem S128x512 .bf16 := Memref.whole cc0_scratch2
abbrev gathM : Memref sig .tc .vmem S3x128x512 .bf16 := Memref.whole cc0_scratch3

/-! ## The semaphores -/

/-- The runtime's barrier semaphore. -/
abbrev barS : Sem sig := (SemArray.scalar (sig.barrier 0 rfl) : Sems sig S_).sem

/-- The four families of copy semaphores: sent and arrived in the first phase, sent and arrived in the second. -/
abbrev fam : Fin 4 → DmaSems sig S3
  | 0 => cc0_scratch4 | 1 => cc0_scratch5 | 2 => cc0_scratch6 | 3 => cc0_scratch7

theorem sem_inb (k : Fin 3) : ∀ a, (![k.val] : Fin 1 → Nat) a + S1.size a ≤ S3.size a := by revert k; decide

/-- Semaphore `k` of an array of three. -/
abbrev semAt (a : DmaSems sig S3) (k : Fin 3) : DmaSem sig :=
  ((a.slice (Rect.unit (s := S3) ![k.val] S1.size (sem_inb k))).squeeze S_ squeezes_S1_S_).sem

/-- The kernel's own semaphores, by family and exchange; -/
abbrev osem (pk : Fin 4 × Fin 3) : SemLoc sig := .dma (semAt (fam pk.1) pk.2)

/-- the cells of a device: its barrier (`none`) and those. -/
abbrev Cells : Type := Option (Fin 4 × Fin 3)
abbrev csem : Cells → SemLoc sig
  | none => .reg barS
  | some pk => osem pk

abbrev kcell (cj : Dev nD × Cells) : GSem nD τ sig := ((cj.1 : Thread nD τ), csem cj.2)
abbrev barCell (c : Dev nD) : GSem nD τ sig := ((c : Thread nD τ), .reg barS)
abbrev dmaCell (c : Dev nD) (p : Fin 4) (k : Fin 3) : GSem nD τ sig := ((c : Thread nD τ), osem (p, k))

theorem osem_injective : Function.Injective osem := by
  intro a b h
  revert a b; decide

theorem osem_ne_bar (pk : Fin 4 × Fin 3) : osem pk ≠ .reg barS := fun h => by cases h

theorem csem_injective : Function.Injective csem := by
  rintro (_ | a) (_ | b) h
  · rfl
  · exact absurd h.symm (osem_ne_bar b)
  · exact absurd h (osem_ne_bar a)
  · exact congrArg some (osem_injective h)

theorem kcell_injective : Function.Injective kcell := by
  rintro ⟨c, j⟩ ⟨c', j'⟩ h
  obtain rfl : c = c' := congrArg (fun g : GSem nD τ sig => g.1.1) h
  exact congrArg (Prod.mk c) (csem_injective (congrArg Prod.snd h))

/-- The credit of one block's copy. -/
abbrev N : ℕ := (redM : Memref sig .tc .vmem S128x512 .bf16).view.dmaCredit
theorem N_pos : 0 < N := View.dmaCredit_pos _ (by decide)
theorem N_slot (m : Memref sig .tc .vmem S3x128x512 .bf16) (k : Fin 3) (sm : DmaSem sig) :
    (slotM m k).view.amount (.dma sm) = N := rfl

end Cert.TwoLayer

end
-- ==== Proof.Slots.lean ====
/-
Reading, writing and sharing the kernel's buffers in terms of what is read through them.

A buffer of three blocks is handled slot by slot: each slot is owned as a 128×512 memref at its contents, which
is how a copy reads or fills it, and the loads and stores of the slot as a 1×128×512 piece of the buffer are
stated over the same ownership.
-/
module

public import proofs.«01_k».proof.Proof.Devices

@[expose] public section

noncomputable section

namespace Cert.TwoLayer

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's part and this kernel's, whose duties are numbered by exchange -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- Device `c` owns the memref `m` at share `q` and reads `X` through it. -/
abbrev holds (c : Dev nD) {sp : Space} {s : Shape} {e : EltTy} (m : Memref sig .tc sp s e) (q : PosShare TreeShare)
    (X : s.Idx → Elt F e) : sProp 𝕄 :=
  owns (Ix := Unit) (Name := ℕ) (U := UU) (Lvl := ℕ) (c : Thread nD τ) m q X

/-- What a re-indexing of a view reads of `f` determines what the view reads of it. -/
theorem read_of_reshape {sp : Space} {s s' : Shape} {e : EltTy} (v : View sig .tc sp s e) (h : s'.numel = s.numel)
    (f : v.ty.Contents (Elt F)) (X : s.Idx → Elt F e) :
    (v.reshape s' h).read (Elt F) f = (fun j => X (Shape.reshapeEquiv h j)) ↔ v.read (Elt F) f = X := by
  constructor
  · intro hr
    funext i
    have := congrFun hr ((Shape.reshapeEquiv h).symm i)
    rw [Equiv.apply_symm_apply] at this
    rw [← this]
    show v.read (Elt F) f i = v.read (Elt F) f (Shape.reshapeEquiv h ((Shape.reshapeEquiv h).symm i))
    rw [Equiv.apply_symm_apply]
  · rintro rfl; rfl

/-- Owning a memref with its unit axes dropped is owning the memref. -/
theorem holds_squeeze (c : Dev nD) {sp : Space} {s s' : Shape} {e : EltTy} (m : Memref sig .tc sp s e) (h : s.Squeezes s')
    (q : PosShare TreeShare) (X : s.Idx → Elt F e) :
    (holds c (m.squeeze s' h) q (fun j => X (Shape.reshapeEquiv h.numel_eq j)) : sProp 𝕄) = holds c m q X := by
  unfold holds owns
  have hs : (m.squeeze s' h).view.set = m.view.set := View.set_reshape _ _
  have hp (f : m.view.ty.Contents (Elt F)) :
      ((m.squeeze s' h).view.read (Elt F) f = fun j => X (Shape.reshapeEquiv h.numel_eq j)) = (m.view.read (Elt F) f = X) :=
    propext (read_of_reshape m.view h.numel_eq f X)
  rw [hs]
  exact congrArg _ (funext fun f => congrArg (fun p => iprop(⌜p⌝ ∗ (m.view.loc (c : Thread nD τ) ↦[m.view.set]{q} f))) (hp f))

/-- A slot owned at `X` as a 128×512 memref is the 1×128×512 piece of the buffer owned at `X` re-laid. -/
theorem holds_slot (c : Dev nD) (m : Memref sig .tc .vmem S3x128x512 .bf16) (k : Fin 3) (q : PosShare TreeShare)
    (X : S128x512.Idx → Elt F .bf16) :
    (holds c (slotM m k) q X : sProp 𝕄)
      = holds c (m.slice (slotR k) (fun _ => rfl)) q (shapeCast S1x128x512 X shapeCasts_S128x512_S1x128x512) := by
  rw [← holds_squeeze c (m.slice (slotR k) (fun _ => rfl)) squeezes_S1x128x512_S128x512 q]
  exact congrArg _ (shapeCast_shapeCast X shapeCasts_S128x512_S1x128x512 shapeCasts_S1x128x512_S128x512).symm

/-- A buffer of three blocks, owned whole, is its three slots; -/
theorem slots_split (c : Dev nD) (m : Memref sig .tc .vmem S3x128x512 .bf16) (X : S3x128x512.Idx → Elt F .bf16) :
    (holds c m fullShare X : sProp 𝕄) ⊢ bigSep Finset.univ fun k => iprop(∃ Y, holds c (slotM m k) fullShare Y) := by
  refine (owns_rects (c : Thread nD τ) m fullShare slotR (fun _ _ => rfl) slot_disjoint slot_cover X).trans (bigSep_mono fun k _ => ?_)
  have h := holds_squeeze (F := F) c (m.slice (slotR k) (fun _ => rfl)) squeezes_S1x128x512_S128x512 fullShare (fun j => X ((slotR k).emb j))
  exact (Entails.of_eq h.symm).trans (exists_intro (Φ := fun Y => holds c (slotM m k) fullShare Y) _)

/-- and the three slots, each at some contents, are the buffer at some contents. -/
theorem slots_join (c : Dev nD) (m : Memref sig .tc .vmem S3x128x512 .bf16) :
    (bigSep Finset.univ fun k => iprop(∃ Y, holds c (slotM m k) fullShare Y) : sProp 𝕄) ⊢ iprop(∃ X, holds c m fullShare X) := by
  haveI : Nonempty (S128x512.Idx → Elt F .bf16) := ⟨fun _ => (Elt.nonempty F .bf16).some⟩
  refine (bigSep_exists_pi Finset.univ fun (k : Fin 3) (Y : S128x512.Idx → Elt F .bf16) => (holds c (slotM m k) fullShare Y : sProp 𝕄)).trans ?_
  refine exists_elim fun Y => ?_
  refine (bigSep_mono fun k _ => ?_).trans ((owns_of_rects (c : Thread nD τ) m fullShare slotR (fun _ _ => rfl) slot_disjoint slot_cover
    (Rect.glue slotR slot_cover fun k => shapeCast S1x128x512 (Y k) shapeCasts_S128x512_S1x128x512)).trans
      (exists_intro (Φ := fun X => (holds c m fullShare X : sProp 𝕄)) _))
  rw [holds_slot]
  refine Entails.of_eq (congrArg (holds c (m.slice (slotR k) (fun _ => rfl)) fullShare) (funext fun j => ?_))
  exact (Rect.glue_emb slotR slot_cover slot_disjoint (fun k => shapeCast S1x128x512 (Y k) shapeCasts_S128x512_S1x128x512) k j).symm

/-! ## Loads and stores -/

section Rules

variable (c : Dev nD) {α : Type}

abbrev run (P : Prog (TpuEff nD τ sig (Elt F) Λ₀ .tc) α) (Q : α → sProp 𝕄) : sProp 𝕄 :=
  wp frame (wpE (defs₀ (F := F)) 𝒱₀ (c : Thread nD τ) none) Set.univ P Q

/-- A load through a rectangle of a memref owned at `X` gives `X` there. -/
theorem load_at {s : Shape} {e : EltTy} {m : Memref sig .tc .vmem s e} {r : Rect s} {hl : m.view.LoadsAt r.toLoadRect}
    {k : (r.shape.Idx → Elt F e) → Prog (TpuEff nD τ sig (Elt F) Λ₀ .tc) α} {q : PosShare TreeShare} (X : s.Idx → Elt F e) {Q : α → sProp 𝕄} :
    (holds c m q X : sProp 𝕄)
      ⊢ iprop((holds c m q X -∗ run c (k (fun j => X (r.emb j))) Q) -∗ run c (.op (.load m r.toLoadRect hl) k) Q) := by
  unfold holds owns
  iintro ⟨%f, %hf, H⟩ Hk
  iapply (wp_load_rect 𝒱₀ (c : Thread nD τ) none Set.univ (m := m) (r := r) (View.set_slice_subset m.view r)) $$ H
  iintro H
  have hr : (m.access r).read (Elt F) f = fun j => X (r.emb j) := by
    rw [← hf]; rfl
  rw [hr]
  iapply Hk
  iexists f
  isplitr; · ipureintro; exact hf
  iexact H

/-- A load of a slot, owned at `X`, gives `X` re-laid. -/
theorem load_slot {m : Memref sig .tc .vmem S3x128x512 .bf16} {j : Fin 3} {hl : m.view.LoadsAt (slotR j).toLoadRect}
    {k : ((slotR j).shape.Idx → Elt F .bf16) → Prog (TpuEff nD τ sig (Elt F) Λ₀ .tc) α} {q : PosShare TreeShare}
    (X : S128x512.Idx → Elt F .bf16) {Q : α → sProp 𝕄} :
    (holds c (slotM m j) q X : sProp 𝕄)
      ⊢ iprop((holds c (slotM m j) q X -∗ run c (k (shapeCast S1x128x512 X shapeCasts_S128x512_S1x128x512)) Q)
        -∗ run c (.op (.load m (slotR j).toLoadRect hl) k) Q) := by
  rw [holds_slot]
  unfold holds owns
  iintro ⟨%f, %hf, H⟩ Hk
  iapply (wp_load_rect 𝒱₀ (c : Thread nD τ) none Set.univ (m := m) (r := slotR j) (subset_refl _)) $$ H
  iintro H
  have hr : (m.access (slotR j)).read (Elt F) f = shapeCast S1x128x512 X shapeCasts_S128x512_S1x128x512 := hf
  rw [hr]
  iapply Hk
  iexists f
  isplitr; · ipureintro; exact hf
  iexact H

/-- A store of a block `X`, re-laid, fills the slot with `X`. -/
theorem store_slot {m : Memref sig .tc .vmem S3x128x512 .bf16} {j : Fin 3} {w : (slotR j).shape.Idx → Elt F .bf16}
    {hx : (m.access (slotR j)).Stores Finset.univ} {hm : Finset.univ = Finset.univ ∨ ∀ a, (slotR j).stride a = 1}
    {k : PUnit → Prog (TpuEff nD τ sig (Elt F) Λ₀ .tc) α} {Y : S128x512.Idx → Elt F .bf16} (X : S128x512.Idx → Elt F .bf16)
    (hw : w = shapeCast S1x128x512 X shapeCasts_S128x512_S1x128x512) {Q : α → sProp 𝕄} :
    (holds c (slotM m j) fullShare Y : sProp 𝕄)
      ⊢ iprop((holds c (slotM m j) fullShare X -∗ run c (k ⟨⟩) Q)
        -∗ run c (.op (.store m (slotR j) w Finset.univ hx hm) k) Q) := by
  rw [holds_slot, holds_slot]
  unfold holds owns
  iintro ⟨%f, %hf, H⟩ Hk
  iapply (wp_store 𝒱₀ (c : Thread nD τ) none Set.univ (m := m) (r := slotR j) (Mk := Finset.univ)
    (S := (m.access (slotR j)).set) (by rw [View.setOn_univ])) $$ H
  iintro H
  iapply Hk
  iexists _
  isplitr
  · ipureintro
    rw [← hw]
    exact View.read_write_univ (v := m.access (slotR j)) f w
  iexact H

/-- A store through a rectangle of a memref owned whole: it then reads what the written contents read. -/
theorem store_at {s : Shape} {e : EltTy} {m : Memref sig .tc .vmem s e} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) α} {X : s.Idx → Elt F e} (X' : s.Idx → Elt F e)
    (hw : ∀ f, m.view.read (Elt F) f = X → m.view.read (Elt F) ((m.access r).write (Elt F) f w Finset.univ) = X') {Q : α → sProp 𝕄} :
    (holds c m fullShare X : sProp 𝕄)
      ⊢ iprop((holds c m fullShare X' -∗ run c (k ⟨⟩) Q) -∗ run c (.op (.store m r w Finset.univ hx hm) k) Q) := by
  unfold holds owns
  iintro ⟨%f, %hf, H⟩ Hk
  iapply (wp_store 𝒱₀ (c : Thread nD τ) none Set.univ (m := m) (r := r) (Mk := Finset.univ)
    (S := m.view.set) (by rw [View.setOn_univ]; exact View.set_slice_subset _ _)) $$ H
  iintro H
  iapply Hk
  iexists _
  isplitr
  · ipureintro
    exact hw f hf
  iexact H

end Rules

theorem origin : (![0, 0] : Fin 2 → Nat) = fun _ => 0 := funext fun a => by fin_cases a <;> rfl

/-- The whole of a matrix read through the rectangle that is all of it. -/
theorem whole_at {s : Shape} {β : Type} (X : s.Idx → β) {off : Fin s.rank → Nat} (h : off = fun _ => 0) (inb : ∀ a, off a + s.size a ≤ s.size a) :
    (fun j => X ((Rect.unit off s.size inb).emb j)) = X := by
  subst h
  funext j
  refine congrArg X (funext fun a => Fin.ext ?_)
  show 0 + 1 * (j a : Nat) = j a
  omega

end Cert.TwoLayer

end
-- ==== Proof.Schedule.lean ====
/-
The contents the run computes, and the protocol its devices follow.

Every device owns a barrier cell and twelve copy cells, three for each of four families: sent and arrived in the
first phase, sent and arrived in the second. Each cell runs one round. A device's three barrier signals hand each of
the other devices the two slots that device will fill; a copy's arrival hands its receiver the filled slot, and its
departure hands the sender back what it read.
-/
module

public import proofs.«01_k».proof.Proof.Slots

@[expose] public section

noncomputable section

namespace Cert.TwoLayer

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What the run computes, as functions of the memory it starts from -/

/-- Device `c`'s staged operands: all of `x`, its column block of the first weights, its row block of the second. -/
def xs (c : Dev nD) : S512x512.Idx → Elt F .bf16 := (win0_0.blk (0 : Fin 1)).view.read (Elt F) (m ((c : Thread nD τ).loc main_arg0))
def w1 (c : Dev nD) : S512x1024.Idx → Elt F .bf16 := (win0_1.blk (0 : Fin 1)).view.read (Elt F) (m ((c : Thread nD τ).loc main_arg1))
def w2 (c : Dev nD) : S1024x512.Idx → Elt F .bf16 := (win0_2.blk (0 : Fin 1)).view.read (Elt F) (m ((c : Thread nD τ).loc main_arg2))

/-- Rows `128 j …` of `X`. -/
def block {β : Type} (X : S512x512.Idx → β) (j : Dev nD) : S128x512.Idx → β := fun i => X ((rowsR j).emb i)

/-- Device `c`'s part of the result's rows `128 j …`: what its share of the hidden layer contributes. -/
def part (c j : Dev nD) : FVec F S128x512 .f32 := k0_pay10 (k0_pay1 (w1 m c)) (k0_pay2 (w2 m c)) (block (xs m c) j)

/-- What device `c` sends in exchange `k` of the first phase: its part of the receiver's rows, rounded. -/
def sent (c : Dev nD) (k : Fin 3) : FVec F S128x512 .bf16 := truncf .bf16 (part m c (sh k c)) bitsLt_bf16_f32

/-- A block as a 1×128×512 piece of a buffer of three. -/
abbrev lay (X : S128x512.Idx → Elt F .bf16) : S1x128x512.Idx → Elt F .bf16 := shapeCast S1x128x512 X shapeCasts_S128x512_S1x128x512

/-- The sum of all four devices' parts of device `c`'s own rows, taken from its own and the first two arrivals, then the third; -/
def acc₂ (c : Dev nD) : FVec F S128x512 .f32 := k0_pay11 (part m c c) (lay (sent m (bk 0 c) 0)) (lay (sent m (bk 1 c) 1))
def acc (c : Dev nD) : FVec F S128x512 .f32 := k0_pay12 (acc₂ m c) (lay (sent m (bk 2 c) 2))
/-- and the same rounded, as it goes out in the second phase. -/
def red (c : Dev nD) : FVec F S128x512 .bf16 := k0_pay13 (acc₂ m c) (lay (sent m (bk 2 c) 2))

/-- `X` with its rows `128 j …` replaced by `w`. -/
def put (X : S512x512.Idx → Elt F .f32) (j : Dev nD) (w : S128x512.Idx → Elt F .f32) : S512x512.Idx → Elt F .f32 :=
  ((oM : Memref sig .tc .vmem S512x512 .f32).access (rowsR j)).write (Elt F) X w Finset.univ

/-- What arrives in exchange `k` of the second phase, widened. -/
def wide (c : Dev nD) (k : Fin 3) : FVec F S128x512 .f32 := k0_pay14 (lay (red m (bk k c)))

/-- The result buffer after each of the four stores into it, from contents `X`. -/
abbrev out₀ (c : Dev nD) (X : S512x512.Idx → Elt F .f32) : S512x512.Idx → Elt F .f32 := put X c (acc m c)
abbrev out₁ (c : Dev nD) (X : S512x512.Idx → Elt F .f32) : S512x512.Idx → Elt F .f32 := put (out₀ m c X) (bk 0 c) (wide m c 0)
abbrev out₂ (c : Dev nD) (X : S512x512.Idx → Elt F .f32) : S512x512.Idx → Elt F .f32 := put (out₁ m c X) (bk 1 c) (wide m c 1)
abbrev out₃ (c : Dev nD) (X : S512x512.Idx → Elt F .f32) : S512x512.Idx → Elt F .f32 := put (out₂ m c X) (bk 2 c) (wide m c 2)

/-! ## The schedule -/

/-- The three shares of the reduced block that its three copies read it at. -/
def share : Fin 3 → PosShare TreeShare
  | 0 => fullShare.left | 1 => fullShare.right.left | 2 => fullShare.right.right

/-- What duty `j` of device `c`'s barrier cell hands it: the landing slots, in both phases, of its copies to the device `j + 1` places back. -/
def barPay (c : Dev nD) (j : Fin 3) : sProp 𝕄 :=
  iprop((∃ Y, holds (bk j c) (slotM recvM (rev j)) fullShare Y) ∗ ∃ Y, holds (bk j c) (slotM gathM (rev j)) fullShare Y)

/-- What a copy's cell hands its device: the first phase's source slot back; the slot that has arrived; a share of the reduced block back; the slot that has arrived. -/
def dmaPay (c : Dev nD) (p : Fin 4) (k : Fin 3) : sProp 𝕄 :=
  match p with
  | 0 => holds c (slotM sendM k) fullShare (sent m c k)
  | 1 => holds c (slotM recvM k) fullShare (sent m (bk k c) k)
  | 2 => holds c redM (share k) (red m c)
  | 3 => holds c (slotM gathM k) fullShare (red m (bk k c))

/-- The payload of duty `j` of device `c`'s cell. -/
def cellPay (c : Dev nD) (j : Fin 3) : Cells → sProp 𝕄
  | none => barPay c j
  | some pk => dmaPay m c pk.1 pk.2

/-- Its duties: one by each of the three other devices for the barrier, a single one for a copy; -/
def cellDuties : Cells → Finset (Fin 3)
  | none => Finset.univ
  | some _ => {0}

/-- and what each brings. -/
def cellAmount : Cells → ℕ
  | none => 1
  | some _ => N

/-- Which of a device's cells a semaphore is. -/
def cellAt : SemLoc sig → Option Cells := Function.partialInv csem

theorem cellAt_csem (j : Cells) : cellAt (csem j) = some j := Function.partialInv_left csem_injective j

/-- One round, at each of the thirteen cells of each device. -/
def plan : Rounds.Schedule (GSem nD τ sig) (Fin 3) 𝕄 where
  duties g r := if r = 0 ∧ g.1.2 = .tc then (cellAt g.2).elim ∅ cellDuties else ∅
  unitless _ := False
  amount g _ _ := (cellAt g.2).elim 1 cellAmount
  payload g _ d := (cellAt g.2).elim iprop(emp) (cellPay m g.1.1 d)
  amount_pos g _ _ _ := by
    rcases cellAt g.2 with _ | _ | _
    · exact Nat.one_pos
    · exact Nat.one_pos
    · exact N_pos

instance plan_storable (g : GSem nD τ sig) (r : ℕ) (d : Fin 3) :
    BI.Storable (upEmb : UEmb _ 𝕄) ((plan (F := F) m).payload g r d) := by
  show BI.Storable upEmb ((cellAt g.2).elim iprop(emp) (cellPay m g.1.1 d))
  rcases cellAt g.2 with _ | _ | ⟨p, k⟩
  · show BI.Storable upEmb iprop(emp); infer_instance
  · show BI.Storable upEmb (barPay _ _); unfold barPay; infer_instance
  · show BI.Storable upEmb (dmaPay _ _ p k)
    unfold dmaPay
    split <;> infer_instance

section Tables

variable (c : Dev nD) (j : Cells)

theorem duties_cell : (plan (F := F) m).duties (kcell (c, j)) 0 = cellDuties j := by
  dsimp only [plan]
  rw [if_pos ⟨rfl, rfl⟩, cellAt_csem]
  rfl

theorem duties_later (g : GSem nD τ sig) : ∀ r, 0 + 1 ≤ r → (plan (F := F) m).duties g r = ∅ :=
  fun r hr => by dsimp only [plan]; rw [if_neg fun h => by omega]

theorem amount_cell (d : Fin 3) : (plan (F := F) m).amount (kcell (c, j)) 0 d = cellAmount j := by
  dsimp only [plan]; rw [cellAt_csem]; rfl

theorem payload_cell (d : Fin 3) : (plan (F := F) m).payload (kcell (c, j)) 0 d = cellPay m c d j := by
  dsimp only [plan]; rw [cellAt_csem]; rfl

theorem expect_cell : (plan (F := F) m).expect (kcell (c, j)) 0 = (cellDuties j).card * cellAmount j := by
  unfold Schedule.expect Schedule.amountOf
  rw [duties_cell, Finset.sum_congr rfl fun d _ => amount_cell m c j d, Finset.sum_const, smul_eq_mul]

/-- The whole round's payloads at a copy's cell and at a barrier cell. -/
theorem rest_dma (p : Fin 4) (k : Fin 3) :
    bigSep ((plan (F := F) m).duties (dmaCell c p k) 0 \ ∅) (fun d => (plan (F := F) m).payload (dmaCell c p k) 0 d) = dmaPay m c p k := by
  rw [Finset.sdiff_empty, duties_cell m c (some (p, k))]
  exact bigSep_singleton.trans (payload_cell m c (some (p, k)) 0)

theorem rest_bar :
    bigSep ((plan (F := F) m).duties (barCell c) 0 \ ∅) (fun d => (plan (F := F) m).payload (barCell c) 0 d) = bigSep Finset.univ (barPay (F := F) c) := by
  rw [Finset.sdiff_empty, duties_cell m c none]
  exact bigSep_congr fun d _ => payload_cell m c none d

end Tables

/-! ## What each device owes, and the order of the cells -/

/-- A unit for the barrier of the device `j + 1` places on; a block's credit for its arrival cell `k` of family `p`. -/
def owesBar (c : Dev nD) (j : Fin 3) : CellTallies nD τ sig Unit := tallyAt (barCell (sh j c)) () 1
def owesCopy (c : Dev nD) (p : Fin 4) (k : Fin 3) : CellTallies nD τ sig Unit := tallyAt (dmaCell (sh k c) p k) () N

/-- What a device owes once it has sent the first phase's copies; before them; and at launch. Paid off from the right. -/
def owe₂ (c : Dev nD) : CellTallies nD τ sig Unit := 0 + owesCopy c 3 2 + owesCopy c 3 1 + owesCopy c 3 0
def owe₁ (c : Dev nD) : CellTallies nD τ sig Unit := owe₂ c + owesCopy c 1 2 + owesCopy c 1 1 + owesCopy c 1 0
def owe₀ (c : Dev nD) : CellTallies nD τ sig Unit := owe₁ c + owesBar c 2 + owesBar c 1 + owesBar c 0

def L (g : GSem nD τ sig) : Finset Unit := if g.1.2 = .tc then {()} else ∅

/-- The order in which cells may be waited on: the staging and sent cells first, then barriers, first arrivals, second arrivals. -/
def lv (g : GSem nD τ sig) (_ : Unit) : ℕ :=
  if g.2 = .reg barS then 1 else if ∃ k, g.2 = osem (1, k) then 2 else if ∃ k, g.2 = osem (3, k) then 3 else 0

theorem L_of_ne (g : GSem nD τ sig) (h : g.1.2 ≠ .tc) : L g = ∅ := if_neg h

theorem lv_bar (c : Dev nD) : lv (barCell c) () = 1 := if_pos rfl
theorem lv_dma (c : Dev nD) (p : Fin 4) (k : Fin 3) : lv (dmaCell c p k) () = if p = 1 then 2 else if p = 3 then 3 else 0 := by
  show (if osem (p, k) = SemLoc.reg barS then 1 else if ∃ k', osem (p, k) = osem (1, k') then 2
    else if ∃ k', osem (p, k) = osem (3, k') then 3 else 0) = _
  revert p k
  decide

/-- Every cell that `O` owes is a core's and stands above level `l`. -/
def Above (l : ℕ) (O : CellTallies nD τ sig Unit) : Prop := ∀ g u, 0 < O g u → g.1.2 = .tc ∧ l < lv g u

theorem above_zero (l : ℕ) : Above l 0 := fun _ _ h => absurd h (Nat.lt_irrefl 0)

theorem above_add {l : ℕ} {O P : CellTallies nD τ sig Unit} (hO : Above l O) (hP : Above l P) : Above l (O + P) := fun g u h => by
  rw [Pi.add_apply, Finsupp.add_apply] at h
  rcases Nat.eq_zero_or_pos (O g u) with h0 | h0
  · exact hP g u (by omega)
  · exact hO g u h0

theorem above_tally {l n : ℕ} (c : Dev nD) (j : Cells) (h : l < lv (kcell (c, j)) ()) : Above l (tallyAt (kcell (c, j)) () n) := fun g u hg => by
  rw [tallyAt_apply] at hg
  by_cases h' : g = kcell (c, j) ∧ u = ()
  · rw [h'.1]; exact ⟨rfl, h⟩
  · rw [if_neg h'] at hg; exact absurd hg (Nat.lt_irrefl 0)

theorem above_bar {l : ℕ} (c : Dev nD) (j : Fin 3) (h : l < 1) : Above l (owesBar c j) :=
  above_tally (sh j c) none (by rw [show lv (kcell (sh j c, none)) () = 1 from lv_bar _]; exact h)
theorem above_copy {l : ℕ} (c : Dev nD) (p : Fin 4) (k : Fin 3) (h : l < if p = 1 then 2 else if p = 3 then 3 else 0) : Above l (owesCopy c p k) :=
  above_tally (sh k c) (some (p, k)) (by rw [show lv (kcell (sh k c, some (p, k))) () = _ from lv_dma _ p k]; exact h)

theorem above_owe₂ (c : Dev nD) : Above 2 (owe₂ c) :=
  above_add (above_add (above_add (above_zero 2) (above_copy c 3 2 (by decide))) (above_copy c 3 1 (by decide))) (above_copy c 3 0 (by decide))

theorem Above.mono {l l' : ℕ} (h : l' ≤ l) {O : CellTallies nD τ sig Unit} (hO : Above l O) : Above l' O := fun g u hg => ⟨(hO g u hg).1, lt_of_le_of_lt h (hO g u hg).2⟩

theorem above_owe₁ (c : Dev nD) : Above 1 (owe₁ c) :=
  above_add (above_add (above_add ((above_owe₂ c).mono (by decide)) (above_copy c 1 2 (by decide))) (above_copy c 1 1 (by decide))) (above_copy c 1 0 (by decide))

theorem above_owe₀ (c : Dev nD) : Above 0 (owe₀ c) :=
  above_add (above_add (above_add ((above_owe₁ c).mono (by decide)) (above_bar c 2 (by decide))) (above_bar c 1 (by decide))) (above_bar c 0 (by decide))

/-- A device may wait on a cell at or below a level that everything it owes is above. -/
theorem may_wait {l : ℕ} {O : CellTallies nD τ sig Unit} (c : Dev nD) (sm : SemLoc sig) (hl : lv ((c : Thread nD τ), sm) () ≤ l) (hO : Above l O) :
    (levAts L lv : sProp 𝕄) ⊢ MayWait (c : Thread nD τ) sm () O :=
  MayOwe.of_cut (L := L) (lev := lv) l
    (fun p hp => by rw [Finset.mem_singleton.mp hp]; exact Finset.mem_singleton_self _)
    (fun g u hg => by unfold L; rw [if_pos (hO g u hg).1]; exact Finset.mem_singleton_self _)
    (fun p hp => by rw [Finset.mem_singleton.mp hp]; exact hl)
    (fun g u hg => (hO g u hg).2)

end Cert.TwoLayer

end
-- ==== Proof.Protocol.lean ====
/-
The rules of the protocol: what a device gives and gets at each signal, copy and wait.

One rule for each kind of step, at a symbolic exchange number.
-/
module

public import proofs.«01_k».proof.Proof.Schedule

@[expose] public section

noncomputable section

namespace Cert.TwoLayer

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Every cell's invariant, under the names `K` it was allocated at, and that every cell has reached its round: what all devices share. -/
def records (K : Dev nD × Cells → ℕ) : sProp 𝕄 :=
  iprop((bigSep Finset.univ fun x : Dev nD × Cells => cellInv ER (plan m) (K x) (kcell x))
    ∗ bigSep Finset.univ fun x : Dev nD × Cells => reached ER (kcell x) 0)

instance records_persistent (K : Dev nD × Cells → ℕ) : BI.Persistent (records m K) := by unfold records; infer_instance

variable (K : Dev nD × Cells → ℕ)

theorem records_inv (x : Dev nD × Cells) : records m K ⊢ cellInv ER (plan m) (K x) (kcell x) :=
  sep_elim_left.trans (bigSep_elim (Finset.mem_univ x))
theorem records_reached (x : Dev nD × Cells) : records m K ⊢ reached ER (kcell x) 0 :=
  sep_elim_right.trans (bigSep_elim (Finset.mem_univ x))

/-- Device `c`'s position at the start of its cell `j`'s round, and the token of a duty of a cell. -/
abbrev posAt (c : Dev nD) (j : Cells) : sProp 𝕄 := atPos ER (kcell (c, j)) 0 ∅ 0
abbrev tok (c : Dev nD) (j : Cells) (d : Fin 3) : sProp 𝕄 := dutyTok ER (kcell (c, j)) 0 d

variable (c : Dev nD) {α : Type}

/-- A barrier signal to the device `j + 1` places on gives it the two slots in which its copies to this device land. -/
theorem signal_rule (j : Fin 3) {n : Dev nD} (hn : n = sh j c) {u : ℕ} (hu : u = 1) (O : CellTallies nD τ sig Unit) (W : Waits sig Unit)
    {k : PUnit → Prog (TpuEff nD τ sig (Elt F) Λ₀ .tc) α} {Q : α → sProp 𝕄} :
    iprop(records m K ∗ owes (c : Thread nD τ) (O + owesBar c j) W ∗ tok (sh j c) none j
        ∗ (∃ Y, holds c (slotM recvM (rev j)) fullShare Y) ∗ ∃ Y, holds c (slotM gathM (rev j)) fullShare Y)
      ⊢ iprop((owes (c : Thread nD τ) O W -∗ run c (k ⟨⟩) Q) -∗ run c (.op (.semSignal (n : Thread nD τ) barS u) k) Q) := by
  subst hn hu
  iintro ⟨#HR, HO, Ht, Hr, Hg⟩ Hk
  iapply (Rounds.wp_signal 𝒱₀ ER (plan m) (c : Thread nD τ) none (dst := (sh j c : Thread nD τ)) (κ := K (sh j c, none)) (d := j)
      (by rw [duties_cell m (sh j c) none]; exact Finset.mem_univ _) (amount_cell m (sh j c) none j) () O rfl) $$ [HO Ht Hr Hg]
  · isplitr; · iapply (records_inv m K (sh j c, none)); iexact HR
    isplitl [HO]; · iexact HO
    isplitl [Ht]; · iexact Ht
    isplitl [Hr Hg]
    · rw [payload_cell m (sh j c) none]
      unfold cellPay barPay
      rw [bk_sh]
      isplitl [Hr] <;> iassumption
    · iapply (records_reached m K (sh j c, none)); iexact HR
  iexact Hk

/-- The wait for the three barrier units gives the slots, on each of the other devices, in which this device's copies land, and closes the cell. -/
theorem barrier_rule {u : ℕ} (hu : u = 3) {O : CellTallies nD τ sig Unit} (hO : Above 1 O) (W : Waits sig Unit)
    {k : PUnit → Prog (TpuEff nD τ sig (Elt F) Λ₀ .tc) α} {Q : α → sProp 𝕄} :
    iprop(records m K ∗ levAts L lv ∗ cred (tallyAt (barCell c) () 3) ∗ owes (c : Thread nD τ) O W ∗ posAt c none)
      ⊢ iprop((((∃ W, owes (c : Thread nD τ) O W) ∗ semVal (barCell c) 0 ∗ bigSep Finset.univ (barPay (F := F) c)) -∗ run c (k ⟨⟩) Q)
        -∗ run c (.op (.semWait barS u) k) Q) := by
  subst hu
  iintro ⟨#HR, #Hl, Hc, HO, Hp⟩ Hk
  iapply (Rounds.wp_wait_rest_token 𝒱₀ ER (plan m) (c : Thread nD τ) none (κ := K (c, none))
      (wpE_semWait_eq 𝒱₀ (c : Thread nD τ) none Set.univ) (Set.mem_univ _) () (O := O) (W := W) (R := 0) (m := 0) (T := ∅)
      (by rw [show (plan m).expect ((c : Thread nD τ), SemLoc.reg barS) 0 = _ from expect_cell m c none]; rfl)) $$ [Hc HO Hp]
  · isplitr; · iapply (records_inv m K (c, none)); iexact HR
    isplitl [Hc]; · iexact Hc
    isplitl [HO]; · iexact HO
    isplitr; · iapply (may_wait c (.reg barS) (lv_bar c).le hO); iexact Hl
    iexact Hp
  iintro ⟨HO, Hp, -, Hpay⟩
  imod (Rounds.cell_close ER (plan m) (Set.mem_univ (K (c, none))) (fun h => h) (R := 0 + 1) (duties_later m (barCell c))) $$ [Hp] with Hz
  · isplitr; · iapply (records_inv m K (c, none)); iexact HR
    iexact Hp
  iapply Hk
  isplitl [HO]; · iexists _; iexact HO
  isplitl [Hz]; · iexact Hz
  iapply (Entails.of_eq (rest_bar m c)); iexact Hpay

/-- The wait on a copy's cell gives what the cell hands its device, and closes the cell. -/
theorem wait_rule (p : Fin 4) (i : Fin 3) {sp' sp : Space} {s' s : Shape} {e' e : EltTy} {src : Memref sig .tc sp' s' e'} {dst : Memref sig .tc sp s e}
    {hsrc : src.view.WordExact} {hdst : dst.view.WordExact} (hN : dst.view.dmaCredit = N)
    {O : CellTallies nD τ sig Unit} {l : ℕ} (hl : lv (dmaCell c p i) () ≤ l) (hO : Above l O)
    {k : PUnit → Prog (TpuEff nD τ sig (Elt F) Λ₀ .tc) α} {Q : α → sProp 𝕄} :
    iprop(records m K ∗ levAts L lv ∗ cred (tallyAt (dmaCell c p i) () N) ∗ (∃ W, owes (c : Thread nD τ) O W) ∗ posAt c (some (p, i)))
      ⊢ iprop((((∃ W, owes (c : Thread nD τ) O W) ∗ semVal (dmaCell c p i) 0 ∗ dmaPay m c p i) -∗ run c (k ⟨⟩) Q)
        -∗ run c (.op (.waitDma2 (semAt (fam p) i) src dst hsrc hdst) k) Q) := by
  iintro ⟨#HR, #Hl, Hc, ⟨%W, HO⟩, Hp⟩ Hk
  iapply (Rounds.wp_wait_rest_token 𝒱₀ ER (plan m) (c : Thread nD τ) none (κ := K (c, some (p, i))) (sm := .dma (semAt (fam p) i)) (k' := N)
      (fun K' => by rw [wpE_waitDma2_eq, hN]) (Set.mem_univ _) () (O := O) (W := W) (R := 0) (m := 0) (T := ∅)
      (by rw [show (plan m).expect ((c : Thread nD τ), SemLoc.dma (semAt (fam p) i)) 0 = _ from expect_cell m c (some (p, i))]; simp [cellDuties, cellAmount])) $$ [Hc HO Hp]
  · isplitr; · iapply (records_inv m K (c, some (p, i))); iexact HR
    isplitl [Hc]; · iexact Hc
    isplitl [HO]; · iexact HO
    isplitr; · iapply (may_wait c _ hl hO); iexact Hl
    iexact Hp
  iintro ⟨HO, Hp, -, Hpay⟩
  imod (Rounds.cell_close ER (plan m) (Set.mem_univ (K (c, some (p, i)))) (fun h => h) (R := 0 + 1) (duties_later m (dmaCell c p i))) $$ [Hp] with Hz
  · isplitr; · iapply (records_inv m K (c, some (p, i))); iexact HR
    iexact Hp
  iapply Hk
  isplitl [HO]; · iexists _; iexact HO
  isplitl [Hz]; · iexact Hz
  iapply (Entails.of_eq (rest_dma m c p i)); iexact Hpay

/-- A copy of what `src` reads, `X`, into `dst` of the device `i + 1` places on: it departs on this device's cell `(a, i)`
    and arrives on that device's cell `(b, i)`, when `X` in the one place and in the other is what the two cells hand over. -/
theorem send_rule (a b : Fin 4) (i : Fin 3) {n : Dev nD} (hn : n = sh i c) {src dst : Memref sig .tc .vmem S128x512 .bf16}
    {hsc : (dst : Memref sig (Dev.tc n : Thread nD τ).2.kind .vmem S128x512 .bf16).view.ref.isScScratch = false}
    {hsrc : src.view.WordExact} {hdst : dst.view.WordExact}
    {hsem : DmaTarget.Typed .vmem (.dma (semAt (fam b) i)) (.remote (Dev.tc n : Thread nD τ) dst (.dma (semAt (fam a) i)) hsc)}
    (hN : dst.view.amount (.dma (semAt (fam b) i)) = N) {q : PosShare TreeShare} (X : S128x512.Idx → Elt F .bf16)
    (hsent : holds c src q X ⊢ dmaPay m c a i) (hland : holds (sh i c) dst fullShare X ⊢ dmaPay m (sh i c) b i)
    (O : CellTallies nD τ sig Unit) {k : PUnit → Prog (TpuEff nD τ sig (Elt F) Λ₀ .tc) α} {Q : α → sProp 𝕄} :
    iprop(records m K ∗ holds c src q X ∗ (∃ Y, holds (sh i c) dst fullShare Y) ∗ (∃ W, owes (c : Thread nD τ) (O + owesCopy c b i) W)
        ∗ tok c (some (a, i)) 0 ∗ tok (sh i c) (some (b, i)) 0)
      ⊢ iprop(((cred (tallyAt (dmaCell c a i) () N) ∗ ∃ W, owes (c : Thread nD τ) O W) -∗ run c (k ⟨⟩) Q)
        -∗ run c (.op (.enqueueDma src (.remote (Dev.tc n : Thread nD τ) dst (.dma (semAt (fam a) i)) hsc) (.dma (semAt (fam b) i)) hsrc hdst hsem) k) Q) := by
  subst hn
  unfold holds owns
  iintro ⟨#HR, ⟨%fs, %hfs, Hs⟩, ⟨%Y, %fd, -, Hd⟩, ⟨%W, HO⟩, Ha, Hb⟩ Hk
  iapply (Rounds.wp_send_pointsTo 𝒱₀ ER (plan m) (c : Thread nD τ) none (κ₁ := K (c, some (a, i))) (κ₂ := K (sh i c, some (b, i)))
    (r₁ := 0) (r₂ := 0) (d₁ := 0) (d₂ := 0) (fs := fs) (fd := fd) (q := q)
    (by rw [duties_cell m c (some (a, i))]; exact Finset.mem_singleton_self _) (by rw [duties_cell m (sh i c) (some (b, i))]; exact Finset.mem_singleton_self _)
    () () N hN (amount_cell m c (some (a, i)) 0) (amount_cell m (sh i c) (some (b, i)) 0) O rfl (W := W)
    (by
      rw [show (plan m).payload ((c : Thread nD τ), SemLoc.dma (semAt (fam a) i)) 0 0 = _ from payload_cell m c (some (a, i)) 0]
      exact (hfs ▸ owns_intro (c : Thread nD τ) src q fs).trans hsent)
    (by
      rw [show (plan m).payload ((sh i c : Thread nD τ), SemLoc.dma (semAt (fam b) i)) 0 0 = _ from payload_cell m (sh i c) (some (b, i)) 0]
      exact (((View.read_write_univ _ _).trans hfs) ▸ owns_intro (sh i c : Thread nD τ) dst fullShare _).trans hland)) $$ [Hs Hd HO Ha Hb]
  · isplitr; · iapply (records_inv m K (c, some (a, i))); iexact HR
    isplitr; · iapply (records_inv m K (sh i c, some (b, i))); iexact HR
    isplitl [Hs]; · iexact Hs
    isplitl [Hd]; · iexact Hd
    isplitl [HO]; · iexact HO
    isplitl [Ha]; · iexact Ha
    isplitr; · iapply (records_reached m K (c, some (a, i))); iexact HR
    isplitl [Hb]; · iexact Hb
    iapply (records_reached m K (sh i c, some (b, i))); iexact HR
  iintro ⟨Hc, HO⟩
  iapply Hk
  isplitl [Hc]; · iexact Hc
  iexists W; iexact HO

end Cert.TwoLayer

end
-- ==== Proof.Steps.lean ====
/-
The kernel's steps, each at a symbolic exchange number, and the result they leave.

A step is a run of operations the kernel repeats for its three exchanges. The result buffer is filled by four stores
of disjoint row blocks that cover it, so what it held before does not matter.
-/
module

public import proofs.«01_k».proof.Proof.Protocol

@[expose] public section

noncomputable section

namespace Cert.TwoLayer

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Loads and stores of row blocks and of whole buffers -/

section Rows

variable (c : Dev nD) {α : Type}

/-- A load of rows `128 j …`. -/
theorem load_rows {e : EltTy} {b : Memref sig .tc .vmem S512x512 e} {off : Fin 2 → Nat} {inb : ∀ a, off a + S128x512.size a ≤ S512x512.size a} {j : Dev nD}
    (h : off = ![128 * j.val, 0]) {hl : b.view.LoadsAt (Rect.unit (s := S512x512) off S128x512.size inb).toLoadRect}
    {k : (S128x512.Idx → Elt F e) → Prog (TpuEff nD τ sig (Elt F) Λ₀ .tc) α} {Q : α → sProp 𝕄} (X : S512x512.Idx → Elt F e) :
    (holds c b fullShare X : sProp 𝕄)
      ⊢ iprop((holds c b fullShare X -∗ run c (k (block X j)) Q) -∗ run c (.op (.load b (Rect.unit (s := S512x512) off S128x512.size inb).toLoadRect hl) k) Q) := by
  subst h
  exact load_at c (m := b) (r := rowsR j) X

/-- A store of rows `128 j …` of the result buffer. -/
theorem store_rows {off : Fin 2 → Nat} {inb : ∀ a, off a + S128x512.size a ≤ S512x512.size a} {j : Dev nD} (h : off = ![128 * j.val, 0])
    {w : S128x512.Idx → Elt F .f32} {hx : ((oM : Memref sig .tc .vmem S512x512 .f32).access (Rect.unit (s := S512x512) off S128x512.size inb)).Stores Finset.univ}
    {hm : Finset.univ = Finset.univ ∨ ∀ a, (Rect.unit (s := S512x512) off S128x512.size inb).stride a = 1}
    {k : PUnit → Prog (TpuEff nD τ sig (Elt F) Λ₀ .tc) α} {Q : α → sProp 𝕄} (X : S512x512.Idx → Elt F .f32) :
    (holds c oM fullShare X : sProp 𝕄)
      ⊢ iprop((holds c oM fullShare (put X j w) -∗ run c (k ⟨⟩) Q)
        -∗ run c (.op (.store oM (Rect.unit (s := S512x512) off S128x512.size inb) w Finset.univ hx hm) k) Q) := by
  subst h
  exact store_at c (put X j w) (fun f hf => by rw [← hf]; rfl)

/-- A load of the whole of a buffer. -/
theorem load_whole {s : Shape} {e : EltTy} {b : Memref sig .tc .vmem s e} {off : Fin s.rank → Nat} {inb : ∀ a, off a + s.size a ≤ s.size a} (h : off = fun _ => 0)
    {hl : b.view.LoadsAt (Rect.unit off s.size inb).toLoadRect} {k : (s.Idx → Elt F e) → Prog (TpuEff nD τ sig (Elt F) Λ₀ .tc) α} {Q : α → sProp 𝕄} (X : s.Idx → Elt F e) :
    (holds c b fullShare X : sProp 𝕄)
      ⊢ iprop((holds c b fullShare X -∗ run c (k X) Q) -∗ run c (.op (.load b (Rect.unit off s.size inb).toLoadRect hl) k) Q) := by
  have h' := load_at c (m := b) (r := Rect.unit off s.size inb) (hl := hl) (k := k) (q := fullShare) (Q := Q) X
  rw [whole_at X h inb] at h'
  exact h'

/-- A store of the whole of the reduced block. -/
theorem store_red {off : Fin 2 → Nat} {inb : ∀ a, off a + S128x512.size a ≤ S128x512.size a} (h : off = fun _ => 0)
    {w : S128x512.Idx → Elt F .bf16} {hx : ((redM : Memref sig .tc .vmem S128x512 .bf16).access (Rect.unit (s := S128x512) off S128x512.size inb)).Stores Finset.univ}
    {hm : Finset.univ = Finset.univ ∨ ∀ a, (Rect.unit (s := S128x512) off S128x512.size inb).stride a = 1}
    {k : PUnit → Prog (TpuEff nD τ sig (Elt F) Λ₀ .tc) α} {Q : α → sProp 𝕄} {X : S128x512.Idx → Elt F .bf16} :
    (holds c redM fullShare X : sProp 𝕄)
      ⊢ iprop((holds c redM fullShare w -∗ run c (k ⟨⟩) Q)
        -∗ run c (.op (.store redM (Rect.unit (s := S128x512) off S128x512.size inb) w Finset.univ hx hm) k) Q) :=
  store_at c (m := redM) (r := Rect.unit (s := S128x512) off S128x512.size inb) (w := w) w (fun f _ => by
    rw [View.read_whole]
    exact Memref.write_access_unit_zero_univ (Elt F) cc0_scratch2 h inb f w)

end Rows

variable (K : Dev nD × Cells → ℕ) (c : Dev nD)

/-! ## The composite steps, at exchange `i` -/

section Steps

variable {α : Type} (i : Fin 3)

/-- The landing slots that the device `i + 1` places on has given this one. -/
def land₁ : sProp 𝕄 := iprop(∃ Y, holds (sh i c) (slotM recvM i) fullShare Y)
def land₂ : sProp 𝕄 := iprop(∃ Y, holds (sh i c) (slotM gathM i) fullShare Y)

/-- What the three barrier units bring, by the exchange that will use it. -/
theorem barPay_rev : barPay (F := F) c (rev i) = iprop(land₁ c i ∗ land₂ c i) := by
  unfold barPay land₁ land₂; rw [bk_rev, rev_rev]

/-- The first phase's step: put the block into its slot of the send buffer and start its copy. -/
theorem scatter_rule {n : Dev nD} (hn : n = sh i c)
    {hl : (sendM : Memref sig .tc .vmem S3x128x512 .bf16).view.LoadsAt (slotR i).toLoadRect}
    {hx : ((sendM : Memref sig .tc .vmem S3x128x512 .bf16).access (slotR i)).Stores Finset.univ} {hm : Finset.univ = Finset.univ ∨ ∀ a, (slotR i).stride a = 1}
    {hsc : (slotM recvM i : Memref sig (Dev.tc n : Thread nD τ).2.kind .vmem S128x512 .bf16).view.ref.isScScratch = false}
    {hsrc : (slotM sendM i).view.WordExact} {hdst : (slotM recvM i).view.WordExact}
    {hsem : DmaTarget.Typed .vmem (.dma (semAt (fam 1) i)) (.remote (Dev.tc n : Thread nD τ) (slotM recvM i) (.dma (semAt (fam 0) i)) hsc)}
    (O : CellTallies nD τ sig Unit) {k : PUnit → Prog (TpuEff nD τ sig (Elt F) Λ₀ .tc) α} {Q : α → sProp 𝕄} :
    iprop(records m K ∗ (∃ Y, holds c (slotM sendM i) fullShare Y) ∗ land₁ c i ∗ (∃ W, owes (c : Thread nD τ) (O + owesCopy c 1 i) W)
        ∗ tok c (some (0, i)) 0 ∗ tok (sh i c) (some (1, i)) 0)
      ⊢ iprop(((cred (tallyAt (dmaCell c 0 i) () N) ∗ ∃ W, owes (c : Thread nD τ) O W) -∗ run c (k ⟨⟩) Q)
        -∗ run c (.op (.load sendM (slotR i).toLoadRect hl) fun _ => .op (.store sendM (slotR i) (lay (sent m c i)) Finset.univ hx hm) fun _ =>
            .op (.enqueueDma (slotM sendM i) (.remote (Dev.tc n : Thread nD τ) (slotM recvM i) (.dma (semAt (fam 0) i)) hsc) (.dma (semAt (fam 1) i)) hsrc hdst hsem) k) Q) := by
  iintro ⟨#HR, ⟨%Y, Hs⟩, Hd, HO, Ha, Hb⟩ Hk
  iapply (load_slot c Y) $$ Hs; iintro Hs
  iapply (store_slot c (sent m c i) rfl) $$ Hs; iintro Hs
  iapply (send_rule m K c 0 1 i hn (N_slot recvM i _) (sent m c i) (Entails.refl _) (by simp only [dmaPay, bk_sh]; exact Entails.refl _) O) $$ [Hs Hd HO Ha Hb]
  · isplitr; · iexact HR
    isplitl [Hs]; · iexact Hs
    isplitl [Hd]; · unfold land₁; iexact Hd
    isplitl [HO]; · iexact HO
    isplitl [Ha] <;> iassumption
  iexact Hk

/-- The first phase's arrival: wait for the slot and load it. -/
theorem arrive_rule {src : Memref sig .tc .vmem S128x512 .bf16} {hsrc : src.view.WordExact} {hdst : (slotM recvM i).view.WordExact}
    {hl : (recvM : Memref sig .tc .vmem S3x128x512 .bf16).view.LoadsAt (slotR i).toLoadRect}
    {k : (S1x128x512.Idx → Elt F .bf16) → Prog (TpuEff nD τ sig (Elt F) Λ₀ .tc) α} {Q : α → sProp 𝕄} :
    iprop(records m K ∗ levAts L lv ∗ cred (tallyAt (dmaCell c 1 i) () N) ∗ (∃ W, owes (c : Thread nD τ) (owe₂ c) W) ∗ posAt c (some (1, i)))
      ⊢ iprop((((∃ W, owes (c : Thread nD τ) (owe₂ c) W) ∗ semVal (dmaCell c 1 i) 0 ∗ ∃ Y, holds c (slotM recvM i) fullShare Y)
            -∗ run c (k (lay (sent m (bk i c) i))) Q)
        -∗ run c (.op (.waitDma2 (semAt (fam 1) i) src (slotM recvM i) hsrc hdst) fun _ => .op (.load recvM (slotR i).toLoadRect hl) k) Q) := by
  iintro ⟨#HR, #Hl, Hc, HO, Hp⟩ Hk
  iapply (wait_rule m K c 1 i (N_slot recvM i (semAt (fam 1) i)) (l := 2) (by rw [lv_dma]; decide) (above_owe₂ c)) $$ [Hc HO Hp]
  · isplitr; · iexact HR
    isplitr; · iexact Hl
    isplitl [Hc]; · iexact Hc
    isplitl [HO] <;> iassumption
  iintro ⟨HO, Hz, Hs⟩
  unfold dmaPay
  iapply (load_slot c (sent m (bk i c) i)) $$ Hs; iintro Hs
  iapply Hk
  isplitl [HO]; · iexact HO
  isplitl [Hz]; · iexact Hz
  iexists _; iexact Hs

/-- The second phase's step: start the copy of the reduced block, at a share of it. -/
theorem spread_rule {n : Dev nD} (hn : n = sh i c)
    {hsc : (slotM gathM i : Memref sig (Dev.tc n : Thread nD τ).2.kind .vmem S128x512 .bf16).view.ref.isScScratch = false}
    {hsrc : (redM : Memref sig .tc .vmem S128x512 .bf16).view.WordExact} {hdst : (slotM gathM i).view.WordExact}
    {hsem : DmaTarget.Typed .vmem (.dma (semAt (fam 3) i)) (.remote (Dev.tc n : Thread nD τ) (slotM gathM i) (.dma (semAt (fam 2) i)) hsc)}
    (O : CellTallies nD τ sig Unit) {k : PUnit → Prog (TpuEff nD τ sig (Elt F) Λ₀ .tc) α} {Q : α → sProp 𝕄} :
    iprop(records m K ∗ holds c redM (share i) (red m c) ∗ land₂ c i ∗ (∃ W, owes (c : Thread nD τ) (O + owesCopy c 3 i) W)
        ∗ tok c (some (2, i)) 0 ∗ tok (sh i c) (some (3, i)) 0)
      ⊢ iprop(((cred (tallyAt (dmaCell c 2 i) () N) ∗ ∃ W, owes (c : Thread nD τ) O W) -∗ run c (k ⟨⟩) Q)
        -∗ run c (.op (.enqueueDma redM (.remote (Dev.tc n : Thread nD τ) (slotM gathM i) (.dma (semAt (fam 2) i)) hsc) (.dma (semAt (fam 3) i)) hsrc hdst hsem) k) Q) :=
  send_rule m K c 2 3 i hn (N_slot gathM i _) (red m c) (Entails.refl _) (by simp only [dmaPay, bk_sh]; exact Entails.refl _) O

/-- The second phase's arrival: wait for the slot, load it, and store it widened into the rows of the device it came from. -/
theorem gather_rule {src : Memref sig .tc .vmem S128x512 .bf16} {hsrc : src.view.WordExact} {hdst : (slotM gathM i).view.WordExact}
    {hl : (gathM : Memref sig .tc .vmem S3x128x512 .bf16).view.LoadsAt (slotR i).toLoadRect}
    {off : Fin 2 → Nat} {inb : ∀ a, off a + S128x512.size a ≤ S512x512.size a} (h : off = ![128 * (bk i c).val, 0])
    {hl' : (oM : Memref sig .tc .vmem S512x512 .f32).view.LoadsAt (Rect.unit (s := S512x512) off S128x512.size inb).toLoadRect}
    {hx : ((oM : Memref sig .tc .vmem S512x512 .f32).access (Rect.unit (s := S512x512) off S128x512.size inb)).Stores Finset.univ}
    {hm : Finset.univ = Finset.univ ∨ ∀ a, (Rect.unit (s := S512x512) off S128x512.size inb).stride a = 1}
    (X : S512x512.Idx → Elt F .f32) {k : PUnit → Prog (TpuEff nD τ sig (Elt F) Λ₀ .tc) α} {Q : α → sProp 𝕄} :
    iprop(records m K ∗ levAts L lv ∗ cred (tallyAt (dmaCell c 3 i) () N) ∗ (∃ W, owes (c : Thread nD τ) 0 W) ∗ posAt c (some (3, i)) ∗ holds c oM fullShare X)
      ⊢ iprop((((∃ W, owes (c : Thread nD τ) 0 W) ∗ semVal (dmaCell c 3 i) 0 ∗ (∃ Y, holds c (slotM gathM i) fullShare Y)
              ∗ holds c oM fullShare (put X (bk i c) (wide m c i))) -∗ run c (k ⟨⟩) Q)
        -∗ run c (.op (.waitDma2 (semAt (fam 3) i) src (slotM gathM i) hsrc hdst) fun _ => .op (.load gathM (slotR i).toLoadRect hl) fun v =>
            .op (.load oM (Rect.unit (s := S512x512) off S128x512.size inb).toLoadRect hl') fun _ =>
              .op (.store oM (Rect.unit (s := S512x512) off S128x512.size inb) (k0_pay14 v) Finset.univ hx hm) k) Q) := by
  iintro ⟨#HR, #Hl, Hc, HO, Hp, Ho⟩ Hk
  iapply (wait_rule m K c 3 i (N_slot gathM i (semAt (fam 3) i)) (l := 3) (by rw [lv_dma]; decide) (above_zero 3)) $$ [Hc HO Hp]
  · isplitr; · iexact HR
    isplitr; · iexact Hl
    isplitl [Hc]; · iexact Hc
    isplitl [HO] <;> iassumption
  iintro ⟨HO, Hz, Hs⟩
  unfold dmaPay
  iapply (load_slot c (red m (bk i c))) $$ Hs; iintro Hs
  iapply (load_rows c h X) $$ Ho; iintro Ho
  iapply (store_rows c h X) $$ Ho; iintro Ho
  iapply Hk
  isplitl [HO]; · iexact HO
  isplitl [Hz]; · iexact Hz
  isplitl [Hs]; · iexists _; iexact Hs
  iexact Ho

/-- A departure, waited for with nothing owed: what the copy read comes back. -/
theorem depart_rule (p : Fin 4) (hp : p = 0 ∨ p = 2) {src dst : Memref sig .tc .vmem S128x512 .bf16} {hsrc : src.view.WordExact} {hdst : dst.view.WordExact}
    (hN : dst.view.dmaCredit = N) {k : PUnit → Prog (TpuEff nD τ sig (Elt F) Λ₀ .tc) α} {Q : α → sProp 𝕄} :
    iprop(records m K ∗ levAts L lv ∗ cred (tallyAt (dmaCell c p i) () N) ∗ (∃ W, owes (c : Thread nD τ) 0 W) ∗ posAt c (some (p, i)))
      ⊢ iprop((((∃ W, owes (c : Thread nD τ) 0 W) ∗ semVal (dmaCell c p i) 0 ∗ dmaPay m c p i) -∗ run c (k ⟨⟩) Q)
        -∗ run c (.op (.waitDma2 (semAt (fam p) i) src dst hsrc hdst) k) Q) :=
  wait_rule m K c p i hN (l := 3) (by rw [lv_dma]; rcases hp with rfl | rfl <;> decide) (above_zero 3)

end Steps

/-! ## The result does not depend on what its buffer held -/

theorem rows_disjoint (j j' : Dev nD) (h : j ≠ j') : Disjoint (rowsR j).set (rowsR j').set :=
  Rect.unit_disjoint 0 (by
    have : j.val ≠ j'.val := fun e => h (Fin.ext e)
    show 128 * j.val + 128 ≤ 128 * j'.val ∨ 128 * j'.val + 128 ≤ 128 * j.val
    omega)

theorem rows_cover : (Finset.univ : Finset (Dev nD)).biUnion (fun j => (rowsR j).set) = Finset.univ := by
  refine Finset.eq_univ_iff_forall.mpr fun i => Finset.mem_biUnion.mpr ?_
  have hi : (i 0).val < 512 := (i 0).isLt
  refine ⟨⟨(i 0).val / 128, by show (i 0).val / 128 < 4; omega⟩, Finset.mem_univ _, Rect.mem_set_unit.mpr fun a => ?_⟩
  match a with
  | ⟨0, _⟩ => exact ⟨by show 128 * ((i 0).val / 128) ≤ (i 0).val; omega, by show (i 0).val < 128 * ((i 0).val / 128) + 128; omega⟩
  | ⟨1, _⟩ => exact ⟨Nat.zero_le _, (Nat.zero_add _).symm ▸ (i 1).isLt⟩

theorem put_same (X : S512x512.Idx → Elt F .f32) (j : Dev nD) (w : S128x512.Idx → Elt F .f32) (y : S128x512.Idx) :
    put X j w ((rowsR j).emb y) = w y := by
  have h := View.read_slice_write_emb (v := (oM : Memref sig .tc .vmem S512x512 .f32).view) (Val := Elt F) (rowsR j) X w (Finset.mem_univ y)
  rw [View.read_whole] at h
  exact h

theorem put_other (X : S512x512.Idx → Elt F .f32) {j j' : Dev nD} (h : j ≠ j') (w : S128x512.Idx → Elt F .f32) (y : S128x512.Idx) :
    put X j w ((rowsR j').emb y) = X ((rowsR j').emb y) := by
  have hy : (rowsR j').emb y ∉ Finset.univ.map (rowsR j).emb := fun hm =>
    Finset.disjoint_left.mp (rows_disjoint j j' h) (by rw [← Rect.map_emb_univ]; exact hm)
      (by rw [← Rect.map_emb_univ]; exact Finset.mem_map_of_mem _ (Finset.mem_univ y))
  have h := View.read_slice_write_of_not_mem (v := (oM : Memref sig .tc .vmem S512x512 .f32).view) (Val := Elt F) (rowsR j) X w Finset.univ hy
  rw [View.read_whole, View.read_whole] at h
  exact h

/-- The rows of device `j` in device `c`'s result: its own sums as they are, the others' as they were sent. -/
def rowsOf (j : Dev nD) : S128x512.Idx → Elt F .f32 := if j = c then acc m c else k0_pay14 (lay (red m j))

/-- Device `c`'s result. -/
def outAt : S512x512.Idx → Elt F .f32 := Rect.glue rowsR rows_cover (rowsOf m c)

theorem outAt_rows (j : Dev nD) (y : S128x512.Idx) : outAt m c ((rowsR j).emb y) = rowsOf m c j y :=
  Rect.glue_emb rowsR rows_cover rows_disjoint (rowsOf m c) j y

theorem ring_cases (j : Dev nD) : j = c ∨ (j ≠ c ∧ (j = bk 0 c ∧ j ≠ bk 1 c ∧ j ≠ bk 2 c ∨ j = bk 1 c ∧ j ≠ bk 2 c ∨ j = bk 2 c)) := by
  revert c j; decide

theorem bk_ne (i : Fin 3) : bk i c ≠ c := by revert i c; decide

theorem out₃_eq (X : S512x512.Idx → Elt F .f32) : out₃ m c X = outAt m c := by
  funext x
  obtain ⟨j, -, hx⟩ := Finset.mem_biUnion.mp (rows_cover.symm ▸ Finset.mem_univ x)
  rw [← Rect.map_emb_univ, Finset.mem_map] at hx
  obtain ⟨y, -, rfl⟩ := hx
  rw [outAt_rows]
  unfold out₃ out₂ out₁ out₀ rowsOf
  rcases ring_cases c j with rfl | ⟨hc, ⟨rfl, h1, h2⟩ | ⟨rfl, h2⟩ | rfl⟩
  · rw [put_other _ (bk_ne _ 2), put_other _ (bk_ne _ 1), put_other _ (bk_ne _ 0), put_same, if_pos rfl]
  · rw [put_other _ (Ne.symm h2), put_other _ (Ne.symm h1), put_same, if_neg hc]; rfl
  · rw [put_other _ (Ne.symm h2), put_same, if_neg hc]; rfl
  · rw [put_same, if_neg hc]; rfl

end Cert.TwoLayer

end
-- ==== Proof.Body.lean ====
/-
The run of the kernel's body on a device, at a symbolic device.

The program is one; each of its steps is one of the composite steps, and the device ends owning what it started with.
-/
module

public import proofs.«01_k».proof.Proof.Steps

@[expose] public section

noncomputable section

namespace Cert.TwoLayer

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Separating products over three -/

theorem three (Φ : Fin 3 → sProp 𝕄) : bigSep Finset.univ Φ = iprop(Φ 0 ∗ Φ 1 ∗ Φ 2) :=
  bigSep_univ_eq_bigSepL [0, 1, 2] (by decide) (by decide) Φ

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The reduced block, held whole or by the three shares its copies read -/

variable (c : Dev nD)

theorem red_split (X : S128x512.Idx → Elt F .bf16) :
    (holds c redM fullShare X : sProp 𝕄) ⊢ iprop(holds c redM (share 0) X ∗ holds c redM (share 1) X ∗ holds c redM (share 2) X) := by
  iintro H
  ihave H := (owns_halves (c : Thread nD τ) redM fullShare X).1 $$ H
  icases H with ⟨H0, H⟩
  ihave H := (owns_halves (c : Thread nD τ) redM fullShare.right X).1 $$ H
  icases H with ⟨H1, H2⟩
  unfold share
  isplitl [H0]; · iexact H0
  isplitl [H1] <;> iassumption

theorem red_join (X : S128x512.Idx → Elt F .bf16) :
    iprop(holds c redM (share 0) X ∗ holds c redM (share 1) X ∗ holds c redM (share 2) X) ⊢ (holds c redM fullShare X : sProp 𝕄) := by
  unfold share
  iintro ⟨H0, H1, H2⟩
  iapply (owns_halves (c : Thread nD τ) redM fullShare X).2
  isplitl [H0]; · iexact H0
  iapply (owns_halves (c : Thread nD τ) redM fullShare.right X).2
  isplitl [H1] <;> iassumption

/-! ## What a device starts with and ends with -/

/-- Device `c`'s positions, one at each of its cells; -/
def positions : sProp 𝕄 :=
  iprop(posAt c none ∗ bigSep Finset.univ fun p : Fin 4 => bigSep Finset.univ fun i : Fin 3 => posAt c (some (p, i)))

/-- for exchange `i` the duties it will discharge: its unit of the receiver's barrier, and both ends of both copies; -/
def duties (i : Fin 3) : sProp 𝕄 :=
  iprop(tok (sh i c) none i ∗ tok c (some (0, i)) 0 ∗ tok (sh i c) (some (1, i)) 0 ∗ tok c (some (2, i)) 0 ∗ tok (sh i c) (some (3, i)) 0)

/-- the credits it holds from the start: for its barrier and for the arrivals. -/
def credits : sProp 𝕄 :=
  iprop(cred (tallyAt (barCell c) () 3) ∗ bigSep Finset.univ fun i : Fin 3 =>
    iprop(cred (tallyAt (dmaCell c 1 i) () N) ∗ cred (tallyAt (dmaCell c 3 i) () N)))

/-- The ghost state a device keeps. -/
def ghost : sProp 𝕄 := iprop(positions c ∗ bigSep Finset.univ fun i : Fin 3 => duties c i)

/-- The four scratch buffers, at any contents. -/
def scratch : sProp 𝕄 :=
  iprop((∃ Y, holds c sendM fullShare Y) ∗ (∃ Y, holds c recvM fullShare Y) ∗ (∃ Y, holds c redM fullShare Y) ∗ ∃ Y, holds c gathM fullShare Y)

/-- The device's thirteen semaphores, at zero. -/
def zeros : sProp 𝕄 :=
  iprop(semVal (barCell c) 0 ∗ bigSep Finset.univ fun p : Fin 4 => bigSep Finset.univ fun i : Fin 3 => semVal (dmaCell c p i) 0)

/-- The three staged operands, at what the run's start gives. -/
def operands : sProp 𝕄 :=
  iprop(holds c xM fullShare (xs m c) ∗ holds c w1M fullShare (w1 m c) ∗ holds c w2M fullShare (w2 m c))

set_option maxHeartbeats 4000000 in
/-- THE RUN of the body on device `c`: it leaves the result, and every buffer and semaphore it used as its own again. -/
theorem body_run (K : Dev nD × Cells → ℕ) :
    iprop(records m K ∗ levAts L lv ∗ ghost c ∗ credits c ∗ (∃ W, owes (c : Thread nD τ) (owe₀ c) W) ∗ scratch c ∗ operands m c ∗ ∃ Z, holds c oM fullShare Z)
      ⊢ run c (bodyAt0 (F := F) t0_0)
          (fun _ => iprop((∃ W, owes (c : Thread nD τ) 0 W) ∗ scratch c ∗ zeros c ∗ operands m c ∗ holds c oM fullShare (outAt m c))) := by
  obtain ⟨hd1, hd2, hd3, hd4, hd5, hd6, hd7, hd8, hd9⟩ := dev_eq c
  iintro ⟨#HR, #Hl, HG, HC, ⟨%W, HO⟩, HS, HX, %Z, Ho⟩
  unfold ghost positions credits scratch operands
  rw [four, three, three, three, three, three, three]
  icases HG with ⟨⟨Hp, ⟨Hp00, Hp01, Hp02⟩, ⟨Hp10, Hp11, Hp12⟩, ⟨Hp20, Hp21, Hp22⟩, Hp30, Hp31, Hp32⟩, HD0, HD1, HD2⟩
  unfold duties
  icases HD0 with ⟨Hb0, Hs0, Ha0, Ht0, Hg0⟩
  icases HD1 with ⟨Hb1, Hs1, Ha1, Ht1, Hg1⟩
  icases HD2 with ⟨Hb2, Hs2, Ha2, Ht2, Hg2⟩
  icases HC with ⟨Hc, ⟨Hc10, Hc30⟩, ⟨Hc11, Hc31⟩, Hc12, Hc32⟩
  icases HS with ⟨⟨%Y0, HS0⟩, ⟨%Y1, HS1⟩, ⟨%Y2, HS2⟩, %Y3, HS3⟩
  icases HX with ⟨Hx, Hw1, Hw2⟩
  ihave HS0 := ((slots_split c sendM Y0).trans (Entails.of_eq (three _))) $$ HS0
  ihave HS1 := ((slots_split c recvM Y1).trans (Entails.of_eq (three _))) $$ HS1
  ihave HS3 := ((slots_split c gathM Y3).trans (Entails.of_eq (three _))) $$ HS3
  icases HS0 with ⟨HS00, HS01, HS02⟩
  icases HS1 with ⟨HS10, HS11, HS12⟩
  icases HS3 with ⟨HS30, HS31, HS32⟩
  unfold bodyAt0
  simp only [cc0_body_eq_skeleton]
  unfold cc0_body_skel
  simp only [k0_part1_eq_skeleton, k0_part2_eq_skeleton]
  unfold k0_part1_skel k0_part2_skel
  simp only [semSignalWord, semWaitWord, Prog.lift, Prog.bind_op, Prog.bind_ret, Prog.pure_eq_ret, wp_deviceId]
  -- the barrier: the landing slots go out, and those of the other devices come
  unfold owe₀
  iapply (signal_rule m K c 0 hd1 rfl _ W) $$ [HO Hb0 HS12 HS32]
  · isplitr; · iexact HR
    isplitl [HO]; · iexact HO
    isplitl [Hb0]; · iexact Hb0
    isplitl [HS12]; · iexact HS12
    iexact HS32
  iintro HO
  iapply (signal_rule m K c 1 hd2 rfl _ W) $$ [HO Hb1 HS11 HS31]
  · isplitr; · iexact HR
    isplitl [HO]; · iexact HO
    isplitl [Hb1]; · iexact Hb1
    isplitl [HS11]; · iexact HS11
    iexact HS31
  iintro HO
  iapply (signal_rule m K c 2 hd3 rfl _ W) $$ [HO Hb2 HS10 HS30]
  · isplitr; · iexact HR
    isplitl [HO]; · iexact HO
    isplitl [Hb2]; · iexact Hb2
    isplitl [HS10]; · iexact HS10
    iexact HS30
  iintro HO
  iapply (barrier_rule m K c rfl (above_owe₁ c) W) $$ [Hc HO Hp]
  · isplitr; · iexact HR
    isplitr; · iexact Hl
    isplitl [Hc]; · iexact Hc
    isplitl [HO]; · iexact HO
    iexact Hp
  iintro ⟨HO, Hz, HP⟩
  ihave HP := (Entails.of_eq (three (barPay c))) $$ HP
  icases HP with ⟨HP0, HP1, HP2⟩
  ihave HP0 := (Entails.of_eq (show barPay (F := F) c 0 = iprop(land₁ c 2 ∗ land₂ c 2) from barPay_rev c 2)) $$ HP0
  ihave HP1 := (Entails.of_eq (show barPay (F := F) c 1 = iprop(land₁ c 1 ∗ land₂ c 1) from barPay_rev c 1)) $$ HP1
  ihave HP2 := (Entails.of_eq (show barPay (F := F) c 2 = iprop(land₁ c 0 ∗ land₂ c 0) from barPay_rev c 0)) $$ HP2
  icases HP0 with ⟨HA2, HB2⟩
  icases HP1 with ⟨HA1, HB1⟩
  icases HP2 with ⟨HA0, HB0⟩
  -- the operands, and the first phase's three blocks
  iapply (load_whole c origin (w1 m c)) $$ Hw1; iintro Hw1
  iapply (load_whole c origin (w2 m c)) $$ Hw2; iintro Hw2
  iapply (load_rows c (off1_eq c 0) (xs m c)) $$ Hx; iintro Hx
  simp only [k0_part3_eq_skeleton, k0_part4_eq_skeleton, k0_part5_eq_skeleton]
  unfold k0_part3_skel k0_part4_skel k0_part5_skel
  simp only [Prog.lift, Prog.bind_op, Prog.bind_ret, Prog.pure_eq_ret]
  unfold owe₁
  iapply (scatter_rule m K c 0 hd4 _) $$ [HS00 HA0 HO Hs0 Ha0]
  · isplitr; · iexact HR
    isplitl [HS00]; · iexact HS00
    isplitl [HA0]; · iexact HA0
    isplitl [HO]; · iexact HO
    isplitl [Hs0]; · iexact Hs0
    iexact Ha0
  iintro ⟨Hc00, HO⟩
  iapply (load_rows c (off1_eq c 1) (xs m c)) $$ Hx; iintro Hx
  iapply (scatter_rule m K c 1 hd5 _) $$ [HS01 HA1 HO Hs1 Ha1]
  · isplitr; · iexact HR
    isplitl [HS01]; · iexact HS01
    isplitl [HA1]; · iexact HA1
    isplitl [HO]; · iexact HO
    isplitl [Hs1]; · iexact Hs1
    iexact Ha1
  iintro ⟨Hc01, HO⟩
  iapply (load_rows c (off1_eq c 2) (xs m c)) $$ Hx; iintro Hx
  iapply (scatter_rule m K c 2 hd6 _) $$ [HS02 HA2 HO Hs2 Ha2]
  · isplitr; · iexact HR
    isplitl [HS02]; · iexact HS02
    isplitl [HA2]; · iexact HA2
    isplitl [HO]; · iexact HO
    isplitl [Hs2]; · iexact Hs2
    iexact Ha2
  iintro ⟨Hc02, HO⟩
  iapply (load_rows c (k0_off2_eq c) (xs m c)) $$ Hx; iintro Hx
  -- its arrivals, and the sum
  simp only [k0_part6_eq_skeleton, k0_part7_eq_skeleton, k0_part8_eq_skeleton]
  unfold k0_part6_skel k0_part7_skel k0_part8_skel
  simp only [Prog.lift, Prog.bind_op, Prog.bind_ret, Prog.pure_eq_ret]
  iapply (arrive_rule m K c 0) $$ [Hc10 HO Hp10]
  · isplitr; · iexact HR
    isplitr; · iexact Hl
    isplitl [Hc10]; · iexact Hc10
    isplitl [HO] <;> iassumption
  iintro ⟨HO, Hz10, HS10⟩
  iapply (arrive_rule m K c 1) $$ [Hc11 HO Hp11]
  · isplitr; · iexact HR
    isplitr; · iexact Hl
    isplitl [Hc11]; · iexact Hc11
    isplitl [HO] <;> iassumption
  iintro ⟨HO, Hz11, HS11⟩
  iapply (arrive_rule m K c 2) $$ [Hc12 HO Hp12]
  · isplitr; · iexact HR
    isplitr; · iexact Hl
    isplitl [Hc12]; · iexact Hc12
    isplitl [HO] <;> iassumption
  iintro ⟨HO, Hz12, HS12⟩
  iapply (load_rows c (k0_off2_eq c) Z) $$ Ho; iintro Ho
  iapply (store_rows c (k0_off2_eq c) (w := acc m c) Z) $$ Ho; iintro Ho
  iapply (load_whole c origin Y2) $$ HS2; iintro HS2
  iapply (store_red c origin (w := red m c)) $$ HS2; iintro HS2
  -- the second phase's three copies, at a share each
  ihave HRed := (red_split c (red m c)) $$ HS2
  icases HRed with ⟨HR0, HR1, HR2⟩
  unfold owe₂
  iapply (spread_rule m K c 0 hd7 _) $$ [HR0 HB0 HO Ht0 Hg0]
  · isplitr; · iexact HR
    isplitl [HR0]; · iexact HR0
    isplitl [HB0]; · iexact HB0
    isplitl [HO]; · iexact HO
    isplitl [Ht0]; · iexact Ht0
    iexact Hg0
  iintro ⟨Hc20, HO⟩
  iapply (spread_rule m K c 1 hd8 _) $$ [HR1 HB1 HO Ht1 Hg1]
  · isplitr; · iexact HR
    isplitl [HR1]; · iexact HR1
    isplitl [HB1]; · iexact HB1
    isplitl [HO]; · iexact HO
    isplitl [Ht1]; · iexact Ht1
    iexact Hg1
  iintro ⟨Hc21, HO⟩
  iapply (spread_rule m K c 2 hd9 _) $$ [HR2 HB2 HO Ht2 Hg2]
  · isplitr; · iexact HR
    isplitl [HR2]; · iexact HR2
    isplitl [HB2]; · iexact HB2
    isplitl [HO]; · iexact HO
    isplitl [Ht2]; · iexact Ht2
    iexact Hg2
  iintro ⟨Hc22, HO⟩
  -- its arrivals
  simp only [k0_part9_eq_skeleton, k0_part10_eq_skeleton, k0_part11_eq_skeleton]
  unfold k0_part9_skel k0_part10_skel k0_part11_skel
  simp only [Prog.lift, Prog.bind_op, Prog.bind_ret, Prog.pure_eq_ret]
  iapply (gather_rule m K c 0 (off3_eq c 0) (out₀ m c Z)) $$ [Hc30 HO Hp30 Ho]
  · isplitr; · iexact HR
    isplitr; · iexact Hl
    isplitl [Hc30]; · iexact Hc30
    isplitl [HO]; · iexact HO
    isplitl [Hp30] <;> iassumption
  iintro ⟨HO, Hz30, HS30, Ho⟩
  iapply (gather_rule m K c 1 (off3_eq c 1) (out₁ m c Z)) $$ [Hc31 HO Hp31 Ho]
  · isplitr; · iexact HR
    isplitr; · iexact Hl
    isplitl [Hc31]; · iexact Hc31
    isplitl [HO]; · iexact HO
    isplitl [Hp31] <;> iassumption
  iintro ⟨HO, Hz31, HS31, Ho⟩
  iapply (gather_rule m K c 2 (off3_eq c 2) (out₂ m c Z)) $$ [Hc32 HO Hp32 Ho]
  · isplitr; · iexact HR
    isplitr; · iexact Hl
    isplitl [Hc32]; · iexact Hc32
    isplitl [HO]; · iexact HO
    isplitl [Hp32] <;> iassumption
  iintro ⟨HO, Hz32, HS32, Ho⟩
  -- the departures, and everything back
  iapply (depart_rule m K c 0 0 (Or.inl rfl) (N_slot sendM 0 (semAt (fam 0) 0))) $$ [Hc00 HO Hp00]
  · isplitr; · iexact HR
    isplitr; · iexact Hl
    isplitl [Hc00]; · iexact Hc00
    isplitl [HO] <;> iassumption
  iintro ⟨HO, Hz00, HS00⟩
  iapply (depart_rule m K c 1 0 (Or.inl rfl) (N_slot sendM 1 (semAt (fam 0) 1))) $$ [Hc01 HO Hp01]
  · isplitr; · iexact HR
    isplitr; · iexact Hl
    isplitl [Hc01]; · iexact Hc01
    isplitl [HO] <;> iassumption
  iintro ⟨HO, Hz01, HS01⟩
  iapply (depart_rule m K c 2 0 (Or.inl rfl) (N_slot sendM 2 (semAt (fam 0) 2))) $$ [Hc02 HO Hp02]
  · isplitr; · iexact HR
    isplitr; · iexact Hl
    isplitl [Hc02]; · iexact Hc02
    isplitl [HO] <;> iassumption
  iintro ⟨HO, Hz02, HS02⟩
  iapply (depart_rule m K c 0 2 (Or.inr rfl) rfl) $$ [Hc20 HO Hp20]
  · isplitr; · iexact HR
    isplitr; · iexact Hl
    isplitl [Hc20]; · iexact Hc20
    isplitl [HO] <;> iassumption
  iintro ⟨HO, Hz20, HR0⟩
  iapply (depart_rule m K c 1 2 (Or.inr rfl) rfl) $$ [Hc21 HO Hp21]
  · isplitr; · iexact HR
    isplitr; · iexact Hl
    isplitl [Hc21]; · iexact Hc21
    isplitl [HO] <;> iassumption
  iintro ⟨HO, Hz21, HR1⟩
  iapply (depart_rule m K c 2 2 (Or.inr rfl) rfl) $$ [Hc22 HO Hp22]
  · isplitr; · iexact HR
    isplitr; · iexact Hl
    isplitl [Hc22]; · iexact Hc22
    isplitl [HO] <;> iassumption
  iintro ⟨HO, Hz22, HR2⟩
  unfold run; rw [wp_ret]; imodintro
  isplitl [HO]; · iexact HO
  isplitl [HS00 HS01 HS02 HS10 HS11 HS12 HS30 HS31 HS32 HR0 HR1 HR2]
  · isplitl [HS00 HS01 HS02]
    · iapply ((Entails.of_eq (three _).symm).trans (slots_join c sendM))
      unfold dmaPay
      isplitl [HS00]; · iexists _; iexact HS00
      isplitl [HS01]; · iexists _; iexact HS01
      iexists _; iexact HS02
    isplitl [HS10 HS11 HS12]
    · iapply ((Entails.of_eq (three _).symm).trans (slots_join c recvM))
      isplitl [HS10]; · iexact HS10
      isplitl [HS11] <;> iassumption
    isplitl [HR0 HR1 HR2]
    · iexists _
      iapply (red_join c (red m c))
      unfold dmaPay
      isplitl [HR0]; · iexact HR0
      isplitl [HR1] <;> iassumption
    iapply ((Entails.of_eq (three _).symm).trans (slots_join c gathM))
    isplitl [HS30]; · iexact HS30
    isplitl [HS31] <;> iassumption
  isplitl [Hz Hz00 Hz01 Hz02 Hz10 Hz11 Hz12 Hz20 Hz21 Hz22 Hz30 Hz31 Hz32]
  · unfold zeros
    rw [four, three, three, three, three]
    isplitl [Hz]; · iexact Hz
    isplitl [Hz00 Hz01 Hz02]; · isplitl [Hz00]; · iexact Hz00
                                isplitl [Hz01] <;> iassumption
    isplitl [Hz10 Hz11 Hz12]; · isplitl [Hz10]; · iexact Hz10
                                isplitl [Hz11] <;> iassumption
    isplitl [Hz20 Hz21 Hz22]; · isplitl [Hz20]; · iexact Hz20
                                isplitl [Hz21] <;> iassumption
    isplitl [Hz30]; · iexact Hz30
    isplitl [Hz31] <;> iassumption
  isplitl [Hx Hw1 Hw2]
  · isplitl [Hx]; · iexact Hx
    isplitl [Hw1] <;> iassumption
  rw [← out₃_eq m c Z]
  iexact Ho

end Cert.TwoLayer

end
-- ==== Proof.Launch.lean ====
/-
The launch: from the body's run on one device to the run of the whole program on four.

The ghost state is made for all devices at once; each duty's token goes to the device that discharges it.
-/
module

public import proofs.«01_k».proof.Proof.Body
public import Idealize.ShloMosaic.Lib.Pipeline.CollectiveSegs

@[expose] public section

noncomputable section

namespace Cert.TwoLayer

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline's single point -/

/-- The memory a run starts from, every counter at zero. -/
abbrev s₀ : MemSt nD τ sig (Elt F) := ⟨m, fun _ => 0, ρ⟩

/-- What a device holds before its body runs, beside its scratch buffers. -/
def ready (c : Dev nD) : sProp 𝕄 := iprop((∃ K, records m K ∗ ghost c) ∗ credits c ∗ levAts L lv)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => w1 m c
    | ⟨2, _⟩ => w2 m c
    | ⟨3, _⟩ => outAt m c
  Φ t := match t with
    | ⟨0, _⟩ => iprop(ready m c ∗ scratch c)
    | ⟨_ + 1, _⟩ => iprop(scratch c ∗ zeros c)
  q _ := fullShare
  owed t := match t with
    | ⟨0, _⟩ => owe₀ c
    | ⟨_ + 1, _⟩ => 0

/-- What the staging buffers hold when the body begins: each operand has been copied in. -/
theorem before_0 (c : Dev nD) (d : S512x512.Idx → Elt F .bf16) : (dats m ρ 0 c).before (0 : Fin 4) t0_0 d = xs m c := by
  unfold Dat.before; rw [if_pos (fetch0_0 t0_0)]; rfl
theorem before_1 (c : Dev nD) (d : S512x1024.Idx → Elt F .bf16) : (dats m ρ 0 c).before (1 : Fin 4) t0_0 d = w1 m c := by
  unfold Dat.before; rw [if_pos (fetch0_1 t0_0)]; rfl
theorem before_2 (c : Dev nD) (d : S1024x512.Idx → Elt F .bf16) : (dats m ρ 0 c).before (2 : Fin 4) t0_0 d = w2 m c := by
  unfold Dat.before; rw [if_pos (fetch0_2 t0_0)]; rfl

/-- The point's precondition and postcondition, written out. -/
def pre (c : Dev nD) : sProp 𝕄 :=
  iprop((ready m c ∗ scratch c) ∗ (dats m ρ 0 c).owesAt () (t0_0 : Fin cfg0.N).castSucc
    ∗ (∃ d, holds c xM fullShare ((dats m ρ 0 c).before (0 : Fin 4) t0_0 d)) ∗ (∃ d, holds c w1M fullShare ((dats m ρ 0 c).before (1 : Fin 4) t0_0 d))
    ∗ (∃ d, holds c w2M fullShare ((dats m ρ 0 c).before (2 : Fin 4) t0_0 d)) ∗ ∃ d, holds c oM fullShare ((dats m ρ 0 c).before (3 : Fin 4) t0_0 d))
def post (c : Dev nD) : sProp 𝕄 :=
  iprop((scratch c ∗ zeros c) ∗ (dats m ρ 0 c).owesAt () (t0_0 : Fin cfg0.N).succ
    ∗ holds c xM fullShare (xs m c) ∗ holds c w1M fullShare (w1 m c) ∗ holds c w2M fullShare (w2 m c) ∗ holds c oM fullShare (outAt m c))

theorem pre_body (c : Dev nD) : pre m ρ c
    ⊢ iprop(∃ K, records m K ∗ levAts L lv ∗ ghost c ∗ credits c ∗ (∃ W, owes (c : Thread nD τ) (owe₀ c) W) ∗ scratch c ∗ operands m c ∗ ∃ Z, holds c oM fullShare Z) := by
  unfold pre ready
  simp only [before_0, before_1, before_2]
  iintro ⟨⟨⟨⟨%K, HR, HG⟩, HC, HL⟩, HS⟩, HO, ⟨%d0, Hx⟩, ⟨%d1, Hw1⟩, ⟨%d2, Hw2⟩, %d3, Ho⟩
  unfold Dat.owesAt Pipeline.owesWithin
  icases HO with ⟨%W, -, HO⟩
  rw [show (dats m ρ 0 c).owed (t0_0 : Fin cfg0.N).castSucc = owe₀ c from rfl]
  iexists K
  isplitl [HR]; · iexact HR
  isplitl [HL]; · iexact HL
  isplitl [HG]; · iexact HG
  isplitl [HC]; · iexact HC
  isplitl [HO]; · iexists W; iexact HO
  isplitl [HS]; · iexact HS
  isplitl [Hx Hw1 Hw2]
  · unfold operands
    isplitl [Hx]; · iexact Hx
    isplitl [Hw1] <;> iassumption
  iexists _; iexact Ho

theorem body_post (c : Dev nD) :
    iprop((∃ W, owes (c : Thread nD τ) 0 W) ∗ scratch c ∗ zeros c ∗ operands m c ∗ holds c oM fullShare (outAt m c)) ⊢ post m ρ c := by
  unfold operands post Dat.owesAt Pipeline.owesWithin
  iintro ⟨⟨%W, HO⟩, HS, HZ, ⟨Hx, Hw1, Hw2⟩, Ho⟩
  isplitl [HS HZ]; · isplitl [HS] <;> iassumption
  isplitl [HO]
  · iexists W
    isplitr; · ipureintro; exact fun _ _ => Or.inl trivial
    iexact HO
  isplitl [Hx]; · iexact Hx
  isplitl [Hw1]; · iexact Hw1
  isplitl [Hw2] <;> iassumption

theorem body_point (c : Dev nD) : pre m ρ c ⊢ run c (bodyAt0 (F := F) t0_0) (fun _ => post m ρ c) :=
  (pre_body m ρ c).trans (exists_elim fun K => (body_run m c K).trans (wp_mono _ _ _ fun _ => body_post m ρ c))

theorem body_obligation (c : Dev nD) : BodyObligation (dats (F := F) m ρ 0 c) (defs₀ (F := F)) 𝒱₀ () Set.univ := fun t => by
  rw [fin_N0 t, bigSep_W0, bigSep_W0]
  exact body_point m ρ c

/-! ## The ghost state at launch -/

theorem swap {A B : Type} [Fintype A] [Fintype B] [DecidableEq A] [DecidableEq B] (Φ : A → B → sProp 𝕄) :
    (bigSep Finset.univ fun a => bigSep Finset.univ (Φ a)) = bigSep Finset.univ fun b => bigSep Finset.univ fun a => Φ a b := by
  rw [← bigSep_univ_prod (fun x : A × B => Φ x.1 x.2), bigSep_univ_equiv (Equiv.prodComm B A) (fun x : A × B => Φ x.1 x.2), bigSep_univ_prod]
  rfl

/-- A product over a device's cells is its barrier's factor and the copies'. -/
theorem over_cells (Φ : Cells → sProp 𝕄) :
    bigSep Finset.univ Φ = iprop(Φ none ∗ bigSep Finset.univ fun p : Fin 4 => bigSep Finset.univ fun i : Fin 3 => Φ (some (p, i))) := by
  rw [← bigSep_univ_prod (fun pi : Fin 4 × Fin 3 => Φ (some pi)),
    show (Finset.univ : Finset Cells) = insert none (Finset.univ.map Function.Embedding.some) by decide, bigSep_insert (by decide), bigSep_map]
  rfl

/-- The duty of exchange `i` at device `c`'s barrier (`none`) or at its copy cell of family `p` (`some p`). -/
def dutyKey (x : Dev nD × Fin 3 × Option (Fin 4)) : GSem nD τ sig × ℕ × Fin 3 :=
  (kcell (x.1, x.2.2.map fun p => (p, x.2.1)), 0, if x.2.2 = none then x.2.1 else 0)

theorem dutyKey_injective : Function.Injective dutyKey := by
  rintro ⟨c, i, o⟩ ⟨c', i', o'⟩ h
  obtain ⟨hg, -, hd⟩ := (Prod.mk.injEq _ _ _ _ ▸ h : _ ∧ _) |>.imp_right fun h => (Prod.mk.injEq _ _ _ _ ▸ h : _ ∧ _)
  obtain ⟨rfl, hj⟩ := Prod.mk.inj (kcell_injective hg)
  rcases o with _ | p <;> rcases o' with _ | p'
  · obtain rfl : i = i' := hd
    rfl
  · cases hj
  · cases hj
  · obtain ⟨rfl, rfl⟩ := Prod.mk.inj (Option.some.inj hj)
    rfl

def allCells : Finset (GSem nD τ sig) := Finset.univ.map ⟨kcell, kcell_injective⟩
def allDuties : Finset (GSem nD τ sig × ℕ × Fin 3) := Finset.univ.map ⟨dutyKey, dutyKey_injective⟩

/-- The launch's ghost element: the pipeline's, and the schedule's cells and duties. -/
def seed : UU := (initOf (Pipeline.cells cfgs cellOf_inj) (Pipeline.launchToks cfgs cellOf_inj), initOf allCells allDuties)

/-- The tokens of exchange `i`'s duties at device `c`'s own cells. -/
def minted (c : Dev nD) (i : Fin 3) : sProp 𝕄 :=
  iprop(tok c none i ∗ tok c (some (0, i)) 0 ∗ tok c (some (1, i)) 0 ∗ tok c (some (2, i)) 0 ∗ tok c (some (3, i)) 0)

/-- What the launch deals device `c`; -/
def dealt (c : Dev nD) : sProp 𝕄 :=
  iprop((bigSep Finset.univ fun j : Cells => roundState ER (plan m) (kcell (c, j)) 0)
    ∗ (bigSep Finset.univ fun j : Cells => posAt c j) ∗ (bigSep Finset.univ fun j : Cells => reached ER (kcell (c, j)) 0)
    ∗ bigSep Finset.univ fun i : Fin 3 => minted c i)

/-- and what it has of it once the cells' invariants are made and the tokens have gone to those who discharge the duties. -/
def armed (c : Dev nD) : sProp 𝕄 := iprop(∃ K, records m K ∗ ghost c)

theorem deal_all : BI.own (ER (initOf allCells allDuties)) ⊢ (|==> bigSep Finset.univ (dealt m) : sProp 𝕄) := by
  have hC (Φ : GSem nD τ sig → sProp 𝕄) : bigSep allCells Φ = bigSep Finset.univ fun c : Dev nD => bigSep Finset.univ fun j : Cells => Φ (kcell (c, j)) := by
    unfold allCells; rw [bigSep_map, bigSep_univ_prod]; rfl
  have hD : bigSep allDuties (fun x => (dutyTok ER x.1 x.2.1 x.2.2 : sProp 𝕄)) = bigSep Finset.univ fun c : Dev nD => bigSep Finset.univ fun i : Fin 3 => minted c i := by
    unfold allDuties
    rw [bigSep_map, bigSep_univ_prod]
    refine bigSep_congr fun c _ => ?_
    rw [bigSep_univ_prod]
    refine bigSep_congr fun i _ => ?_
    rw [bigSep_univ_eq_bigSepL [none, some 0, some 1, some 2, some 3] (by decide) (by decide)]
    rfl
  iintro H
  imod (Rounds.fund ER (plan m) allCells allDuties) $$ H with ⟨Hst, Hr, Hat, Htok⟩
  imodintro
  ihave Hst := (Entails.of_eq (hC fun g => roundState ER (plan m) g 0)) $$ Hst
  ihave Hat := (Entails.of_eq (hC fun g => atPos ER g 0 ∅ 0)) $$ Hat
  ihave Hr := (Entails.of_eq (hC fun g => reached ER g 0)) $$ Hr
  ihave Htok := (Entails.of_eq hD) $$ Htok
  unfold dealt
  simp only [bigSep_sep']
  isplitl [Hst]; · iexact Hst
  isplitl [Hat]; · iexact Hat
  isplitl [Hr] <;> iassumption

/-- The barrier semaphore is the one a device keeps beyond its kernel's own twelve. -/
theorem unscoped_bar (c : Dev nD) : (unscopedSems0 c : sProp 𝕄) = semVal (barCell c) 0 := by
  unfold unscopedSems0; rw [bigSep_eq_bigSepL_of_eq [SemLoc.reg barS] (by decide) (by decide)]; rfl

theorem own_copies (c : Dev nD) : (Pipeline.ownSems0 (Ix := Unit) (Name := ℕ) (U := UU) (Lvl := ℕ) (Val := Elt F) (τ := τ) osem c : sProp 𝕄)
    = bigSep Finset.univ fun p : Fin 4 => bigSep Finset.univ fun i : Fin 3 => semVal (dmaCell c p i) 0 := by
  unfold Pipeline.ownSems0; rw [bigSep_univ_prod]

theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  rw [unscoped_bar, own_copies]; rfl

/-- A device's counters and round states make the invariants of its cells. -/
theorem make_invs (c : Dev nD) :
    iprop(zeros c ∗ bigSep Finset.univ fun j : Cells => roundState ER (plan m) (kcell (c, j)) 0)
      ⊢ (|={Set.univ}=> bigSep Finset.univ fun j : Cells => iprop(∃ κ : ℕ, cellInv ER (plan m) κ (kcell (c, j))) : sProp 𝕄) := by
  rw [show (zeros c : sProp 𝕄) = bigSep Finset.univ fun j : Cells => semVal (kcell (c, j)) 0 from (over_cells (fun j => semVal (kcell (c, j)) 0)).symm, ← bigSep_sep']
  exact (bigSep_mono fun j _ => (Rounds.body_intro ER (plan m) (kcell (c, j))).trans inv_alloc).trans (bigSep_fupd _ _)

/-- Each token to the device that discharges its duty: an exchange at a time, a shift of the ring. -/
theorem hand_round : (bigSep Finset.univ fun c : Dev nD => bigSep Finset.univ fun i : Fin 3 => (minted c i : sProp 𝕄))
    ⊢ bigSep Finset.univ fun c : Dev nD => bigSep Finset.univ fun i : Fin 3 => duties c i := by
  rw [swap, swap (fun (c : Dev nD) (i : Fin 3) => (duties c i : sProp 𝕄))]
  refine Entails.of_eq (bigSep_congr fun i _ => ?_)
  unfold minted duties
  simp only [bigSep_sep']
  rw [bigSep_univ_equiv (shift i) (fun c : Dev nD => (tok c none i : sProp 𝕄)),
    bigSep_univ_equiv (shift i) (fun c : Dev nD => (tok c (some (1, i)) 0 : sProp 𝕄)),
    bigSep_univ_equiv (shift i) (fun c : Dev nD => (tok c (some (3, i)) 0 : sProp 𝕄))]
  rfl

/-- All devices at once: the semaphores and what the launch dealt become what each device keeps. -/
theorem arm_all :
    (bigSep Finset.univ fun c => iprop(Pipeline.ownSems0 (Ix := Unit) (Name := ℕ) (U := UU) (Lvl := ℕ) (Val := Elt F) (τ := τ) osem c ∗ unscopedSems0 c ∗ dealt m c) : sProp 𝕄)
      ⊢ |={Set.univ}=> bigSep Finset.univ (armed m) := by
  have hz : (bigSep Finset.univ fun c => iprop(Pipeline.ownSems0 (Ix := Unit) (Name := ℕ) (U := UU) (Lvl := ℕ) (Val := Elt F) (τ := τ) osem c ∗ unscopedSems0 c ∗ dealt m c) : sProp 𝕄)
      ⊢ iprop((bigSep Finset.univ fun c => iprop(zeros c ∗ bigSep Finset.univ fun j : Cells => roundState ER (plan m) (kcell (c, j)) 0))
        ∗ (bigSep Finset.univ fun c => bigSep Finset.univ fun j : Cells => posAt c j)
        ∗ (bigSep Finset.univ fun c => bigSep Finset.univ fun j : Cells => reached ER (kcell (c, j)) 0)
        ∗ bigSep Finset.univ fun c => bigSep Finset.univ fun i : Fin 3 => minted c i) := by
    simp only [zeros_eq]
    unfold dealt
    simp only [bigSep_sep']
    iintro ⟨H1, H2, H3, H4, H5, H6⟩
    isplitl [H1 H2 H3]
    · isplitl [H1 H2]; · isplitl [H2] <;> iassumption
      iexact H3
    isplitl [H4]; · iexact H4
    isplitl [H5] <;> iassumption
  iintro H
  ihave H := hz $$ H
  icases H with ⟨Hz, Hp, Hr, Ht⟩
  imod (show (bigSep Finset.univ fun c => iprop(zeros c ∗ bigSep Finset.univ fun j : Cells => roundState ER (plan m) (kcell (c, j)) 0))
      ⊢ (|={Set.univ}=> bigSep Finset.univ fun c : Dev nD => bigSep Finset.univ fun j : Cells => iprop(∃ κ : ℕ, cellInv ER (plan m) κ (kcell (c, j))) : sProp 𝕄) from
    (bigSep_mono fun c _ => make_invs m c).trans (bigSep_fupd _ _)) $$ Hz with HI
  imodintro
  ihave HI := (Entails.of_eq (bigSep_univ_prod (fun x : Dev nD × Cells => iprop(∃ κ : ℕ, cellInv ER (plan m) κ (kcell x)))).symm) $$ HI
  ihave HI := (bigSep_exists_pi Finset.univ (fun (x : Dev nD × Cells) (κ : ℕ) => (cellInv ER (plan m) κ (kcell x) : sProp 𝕄))) $$ HI
  icases HI with ⟨%K, HI⟩
  ihave Hr := (Entails.of_eq (bigSep_univ_prod (fun x : Dev nD × Cells => (reached ER (kcell x) 0 : sProp 𝕄))).symm) $$ Hr
  ihave Ht := (hand_round (F := F)) $$ Ht
  ihave HG := (show iprop((bigSep Finset.univ fun c : Dev nD => bigSep Finset.univ fun j : Cells => posAt c j) ∗ bigSep Finset.univ fun c : Dev nD => bigSep Finset.univ fun i : Fin 3 => duties c i)
      ⊢ (bigSep Finset.univ fun c : Dev nD => ghost c : sProp 𝕄) from Entails.of_eq (by
        rw [← bigSep_sep']; exact bigSep_congr fun c _ => by unfold ghost positions; rw [over_cells])) $$ [Hp Ht]
  · isplitl [Hp] <;> iassumption
  ihave HR := (show iprop((bigSep Finset.univ fun x : Dev nD × Cells => cellInv ER (plan m) (K x) (kcell x)) ∗ bigSep Finset.univ fun x : Dev nD × Cells => reached ER (kcell x) 0)
      ⊢ (bigSep Finset.univ fun _ : Dev nD => records m K : sProp 𝕄) from BI.bigSep_of_persistent Finset.univ (records m K)) $$ [HI Hr]
  · isplitl [HI] <;> iassumption
  iapply ((Entails.of_eq (bigSep_sep' Finset.univ (fun _ : Dev nD => records m K) fun c => ghost c).symm).trans
    (bigSep_mono fun c _ => exists_intro (Φ := fun K => iprop(records m K ∗ ghost c)) K))
  isplitl [HR] <;> iassumption

/-! ## The credits at launch -/

/-- What the dues of one exchange across the devices credit device `c`'s own cell with: a copy's bytes, or the barrier's unit. -/
theorem credit_copy (c : Dev nD) (p : Fin 4) (i : Fin 3) :
    (Pipeline.launchCred (fun d => owesCopy d p i) c : sProp 𝕄) ⊢ cred (tallyAt (dmaCell c p i) () N) :=
  Pipeline.launchCred_tallyAt (osem (p, i)) (sh i) (bk i) (sh_bk i) (bk_sh i) () N c
theorem credit_bar (c : Dev nD) (i : Fin 3) :
    (Pipeline.launchCred (fun d => owesBar d i) c : sProp 𝕄) ⊢ cred (tallyAt (barCell c) () 1) :=
  Pipeline.launchCred_tallyAt (.reg barS) (sh i) (bk i) (sh_bk i) (bk_sh i) () 1 c

theorem credits_intro (c : Dev nD) : (Pipeline.launchCred owe₀ c : sProp 𝕄) ⊢ credits c := by
  rw [show (owe₀ : Dev nD → CellTallies nD τ sig Unit) = fun d => 0 + owesCopy d 3 2 + owesCopy d 3 1 + owesCopy d 3 0
    + owesCopy d 1 2 + owesCopy d 1 1 + owesCopy d 1 0 + owesBar d 2 + owesBar d 1 + owesBar d 0 from rfl]
  rw [Pipeline.launchCred_add, Pipeline.launchCred_add, Pipeline.launchCred_add, Pipeline.launchCred_add, Pipeline.launchCred_add,
    Pipeline.launchCred_add, Pipeline.launchCred_add, Pipeline.launchCred_add, Pipeline.launchCred_add]
  iintro ⟨⟨⟨⟨⟨⟨⟨⟨⟨-, H32⟩, H31⟩, H30⟩, H12⟩, H11⟩, H10⟩, Hb2⟩, Hb1⟩, Hb0⟩
  ihave H32 := (credit_copy (F := F) c 3 2) $$ H32
  ihave H31 := (credit_copy (F := F) c 3 1) $$ H31
  ihave H30 := (credit_copy (F := F) c 3 0) $$ H30
  ihave H12 := (credit_copy (F := F) c 1 2) $$ H12
  ihave H11 := (credit_copy (F := F) c 1 1) $$ H11
  ihave H10 := (credit_copy (F := F) c 1 0) $$ H10
  ihave Hb2 := (credit_bar (F := F) c 2) $$ Hb2
  ihave Hb1 := (credit_bar (F := F) c 1) $$ Hb1
  ihave Hb0 := (credit_bar (F := F) c 0) $$ Hb0
  unfold credits
  rw [three, show tallyAt (barCell c) () 3 = tallyAt (barCell c) () 1 + (tallyAt (barCell c) () 1 + tallyAt (barCell c) () 1 : CellTallies nD τ sig Unit) by
    rw [tallyAt_add, tallyAt_add]]
  isplitl [Hb0 Hb1 Hb2]
  · iapply (cred_add _ _).2
    isplitl [Hb0]; · iexact Hb0
    iapply (cred_add _ _).2
    isplitl [Hb1] <;> iassumption
  isplitl [H10 H30]; · isplitl [H10] <;> iassumption
  isplitl [H11 H31]; · isplitl [H11] <;> iassumption
  isplitl [H12] <;> iassumption

/-! ## The run -/

theorem ready_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ armed m c)
      ⊢ |={Set.univ}=> iprop(ready m c ∗ emp) := by
  iintro ⟨-, HL, HC, -, HG⟩
  ihave HC := (credits_intro (F := F) c) $$ HC
  imodintro
  unfold ready armed
  isplitl
  · isplitl [HG]; · iexact HG
    isplitl [HC] <;> iassumption
  · iempintro

/-- The scratch buffers are the scoped buffers beside the staging ones. -/
theorem scratch_eq (c : Dev nD) : (Pipeline.scopedRest cfg0.spec c : sProp 𝕄) = scratch c := by
  have h := scopedRest0_eq (Ix := Unit) (Val := Elt F) (Name := ℕ) (U := UU) (Lvl := ℕ) c
  refine h.trans ?_
  unfold scratch holds
  simp only [owns_whole]
  rfl

theorem enter (c : Dev nD) :
    iprop(ready m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(ready m c ∗ scratch c) from rfl, scratch_eq]
  iintro ⟨H, -, HS⟩
  isplitl [H] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scratch c ∗ zeros c) from rfl, scratch_eq, zeros_eq]
  iintro ⟨HS, HU, HZ⟩
  isplitl [HU]; · iexact HU
  isplitl [HZ] <;> iassumption

theorem waits (c : Dev nD) : (levAts L lv : sProp 𝕄) ⊢ Pipeline.cellsWaits cfgs (dats m ρ) () 0 c :=
  Pipeline.cellsWaits_intro cfgs (dats m ρ) () 0 c fun w s t =>
    may_wait (l := 0) c _ (by
      fin_cases w <;> fin_cases s <;> exact (show lv (((0 : Dev nD) : Thread nD τ), _) () ≤ 0 by decide)) (by
      rcases t with ⟨_ | _, ht⟩
      · exact above_owe₀ c
      · exact above_zero 0)

theorem ownSemFacts : Pipeline.OwnSemFacts cfg0.spec osem := by decide

/-- What the run leaves in device `c`'s array of window `w`. -/
def left (c : Dev nD) (w : Fin cfg0.W) : Buf (Elt F) ((cfg0.win w).arr.view.loc (c : Thread nD τ)) := (dats m ρ 0 c).arrAt w cfg0.N

set_option maxRecDepth 8000 in
/-- THE RUN. On four devices, for any float values, from any memory with zero counters, every weakly fair execution
    terminates, with each array as `left` says and every counter at zero. -/
theorem run_main : θ_run defs (onTc (τ := τ) (main (F := F))) (s₀ m ρ) (fun r =>
    (∀ (c : Dev nD) (w : Fin cfg0.W), r.2.mem ((cfg0.win w).arr.view.loc (c : Thread nD τ)) = left m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl) (hbody := body_obligation m ρ) (hne := fun w => by fin_cases w <;> exact Nat.succ_pos _)
    (harr := arr_whole0) (hstage := stage_whole0) (hshare := fun c w => by unfold Dat.share; split <;> rfl) (hdistinct := winFacts0.arr_inj)
    (O₀ := owe₀) (howed₀ := fun _ => rfl) (howedN := fun _ => rfl) (L := L) (lv := lv) (hL := L_of_ne) (hwaits := waits m ρ)
    (G := dealt m) (G' := armed m) (u₀ := seed)
    (hu₀ := by
      unfold seed
      iintro Hu
      ihave H := (ownU_pair _ _) $$ Hu
      icases H with ⟨HP, HX⟩
      imod (deal_all m) $$ HX with HG
      imodintro
      isplitl [HP] <;> iassumption)
    (hglob := arm_all m) (hA := fun _ _ => rfl) (hpf := fun _ k => k.elim0)
    (X := ready m) (Y := fun c => unscopedSems0 c) (Z := fun _ => iprop(emp)) (hX := ready_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What it leaves -/

/-- The three operands are as they were; -/
theorem left_0 (c : Dev nD) : left m ρ c (0 : Fin 4) = m ((c : Thread nD τ).loc main_arg0) := (dats (F := F) m ρ 0 c).arrAt_in (0 : Fin 4) rfl _
theorem left_1 (c : Dev nD) : left m ρ c (1 : Fin 4) = m ((c : Thread nD τ).loc main_arg1) := (dats (F := F) m ρ 0 c).arrAt_in (1 : Fin 4) rfl _
theorem left_2 (c : Dev nD) : left m ρ c (2 : Fin 4) = m ((c : Thread nD τ).loc main_arg2) := (dats (F := F) m ρ 0 c).arrAt_in (2 : Fin 4) rfl _

end Cert.TwoLayer

end
-- ==== Proof.Frames.lean ====
/-
The frames: each program runs to its end, leaves its arguments as they were and every counter at zero.

The kernel's frames are `run_main` (Launch.lean) with the values dropped; the reference's is its straight line's run.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.TwoLayer

open Idealize.ShloMosaic Idealize.ShloMosaic.TcCoe Idealize.SL.Sem

section
open Cert.KernelIdeal Cert.KernelIdeal.Gen

/-- For any float values: every execution of the kernel ends with the three operands as they were and every counter at
    zero. -/
theorem frame {F : FTy → Type} [FloatOps F] (m : (ℓ : Loc nD τ sig) → Buf (Elt F) ℓ) (ρ : Dev nD → PrngReg) :
    θ_run defs (onTc (τ := τ) (main (F := F))) (s₀ m ρ) (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
      ∧ r.2.sem = fun _ => 0) :=
  (θ_run defs _ _).mono
    (fun _ h => ⟨fun c => ⟨(h.1 c (0 : Fin 4)).trans (left_0 m ρ c), (h.1 c (1 : Fin 4)).trans (left_1 m ρ c),
      (h.1 c (2 : Fin 4)).trans (left_2 m ρ c)⟩, h.2⟩)
    (run_main m ρ)

end

/-- The kernel over the extended reals. -/
theorem frame_ideal : Cert.quiescent_KernelIdeal (hKernelIdeal := Cert.KernelIdeal.Gen.facts) := fun m ρ _ =>
  frame (F := Ideal) m ρ

/-! No operation was rewritten, so the kernel's text over bit patterns is the one `frame` is about. -/

section
attribute [local instance] Cert.Kernel.Gen.facts Cert.KernelIdeal.Gen.facts

/-- The two programs' one body is the same, -/
theorem body_same : Cert.Kernel.defs₀ (F := Bits) = Cert.KernelIdeal.defs₀ (F := Bits) := by
  unfold Cert.Kernel.defs₀ Cert.KernelIdeal.defs₀
  refine congrArg (Defs.onTc (τ := Cert.KernelIdeal.τ)) ?_
  funext ℓ a
  rcases ℓ with ⟨_ | _, h⟩
  · rcases a with ⟨t, s⟩
    rfl
  · omega

/-- and so are the tables that the call's pipeline makes of it. -/
theorem table_same : Cert.Kernel.defs (F := Bits) = Cert.KernelIdeal.defs (F := Bits) :=
  congrArg (Pipeline.defs Cert.KernelIdeal.pcfgs) body_same

/-- The kernel as it is, over bit patterns. -/
theorem frame_bits : Cert.quiescent_Kernel := fun m ρ _ =>
  cast (congrArg (fun d => θ_run d _ _ _) table_same).symm (frame (F := Bits) m ρ)

end

/-- The reference: its eight operations write none of its arguments, and it declares no semaphore. -/
theorem frame_ref : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.TwoLayer

end
-- ==== Proof.Value.lean ====
/-
What the kernel computes over the extended reals: the two-layer function of the whole operands.

Over the extended reals a change of format is the identity and a sum may be taken in any order. So device `j`'s reduced
rows are the sum over the four devices of their parts; a part is the two products over one quarter of the hidden units,
and the four quarters together are all of them.
-/
module

public import proofs.«01_k».proof.Proof.Launch
public import Idealize.ShloMosaic.Lib.MatmulPlain
public import Idealize.ShloMosaic.Lib.Layout

@[expose] public section

noncomputable section

namespace Cert.TwoLayer

open Cert.KernelIdeal Cert.KernelIdeal.Gen

open Idealize.ShloMosaic
open Idealize.ShloMosaic.TcCoe
open Idealize.SL.Sem
open Idealize.ShloMosaic.Pipeline (Dat)
open Idealize.ShloMosaic.ValueIdx
open scoped BigOperators

/-! ## The result array -/

section Array

variable {F : FTy → Type} [FloatOps F]
variable (m : (ℓ : Loc nD τ sig) → Buf (Elt F) ℓ) (ρ : Dev nD → PrngReg)

/-- The single point's blocks are the whole arrays: reading one is reading the array. -/
theorem xs_eq (c : Dev nD) : xs m c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _
theorem w1_eq (c : Dev nD) : w1 m c = m ((c : Thread nD τ).loc main_arg1) :=
  Memref.read_access_unit_zero (Elt F) main_arg1 (off := fun a => win0_1.index (0 : Fin 1) a * main_arg1.ty.shape.size a)
    (funext fun a => by fin_cases a <;> decide) (fun a => by fin_cases a <;> decide) _
theorem w2_eq (c : Dev nD) : w2 m c = m ((c : Thread nD τ).loc main_arg2) :=
  Memref.read_access_unit_zero (Elt F) main_arg2 (off := fun a => win0_2.index (0 : Fin 1) a * main_arg2.ty.shape.size a)
    (funext fun a => by fin_cases a <;> decide) (fun a => by fin_cases a <;> decide) _

/-- The result array ends holding what the body left in its staging buffer. -/
theorem left_3 (c : Dev nD) : left m ρ c (3 : Fin 4) = outAt m c := by
  have h : (win0_3.blk (0 : Fin 1)).view.read (Elt F) (left m ρ c (3 : Fin 4)) = outAt m c := by
    unfold left
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  exact (Memref.read_access_unit_zero (Elt F) main_v1 (off := fun a => win0_3.index (0 : Fin 1) a * main_v1.ty.shape.size a)
    (funext fun a => by fin_cases a <;> decide) (fun a => by fin_cases a <;> decide) _).symm.trans h

end Array

/-! ## The function -/

/-- Two layers over `n` hidden units: at row `r` and column `c`, the sum over the units of the positive part of the
    row's product with the unit's first weights, times the unit's second weight. -/
def layers {R n : ℕ} (X : (⟨2, ![R, 512]⟩ : Shape).Idx → EReal) (U : (⟨2, ![512, n]⟩ : Shape).Idx → EReal)
    (V : (⟨2, ![n, 512]⟩ : Shape).Idx → EReal) (r : Fin R) (c : Fin 512) : EReal :=
  ∑ k : Fin n, max (∑ l : Fin 512, X (ix2 r l) * U (ix2 l k)) 0 * V (ix2 k c)

/-- The whole weights: 4096 hidden units, 1024 of them on each device. -/
abbrev SU : Shape := ⟨2, ![512, 4096]⟩
abbrev SV : Shape := ⟨2, ![4096, 512]⟩

/-- Four quarters of the hidden units are all of them. -/
theorem layers_split {R : ℕ} (X : (⟨2, ![R, 512]⟩ : Shape).Idx → EReal) (U : SU.Idx → EReal) (V : SV.Idx → EReal)
    (r : Fin R) (c : Fin 512) :
    ∑ d : Fin 4, layers X (Layout.block S512x1024 SU 1 4 d U) (Layout.block S1024x512 SV 0 4 d V) r c = layers X U V r c := by
  unfold layers
  rw [← Equiv.sum_comp (finProdFinEquiv (m := 4) (n := 1024)), Fintype.sum_prod_type]
  refine Finset.sum_congr rfl fun d _ => Finset.sum_congr rfl fun k _ => ?_
  have hU (l : Fin 512) : Layout.block S512x1024 SU 1 4 d U (by decide) (ix2 l k) = U (ix2 l (finProdFinEquiv (d, k))) := by
    rw [Layout.block_apply]
    refine congrArg U (Shape.idx_ext₂ rfl ?_)
    show d.val * 1024 + k.val = k.val + 1024 * d.val
    omega
  have hV : Layout.block S1024x512 SV 0 4 d V (by decide) (ix2 k c) = V (ix2 (finProdFinEquiv (d, k)) c) := by
    rw [Layout.block_apply]
    refine congrArg V (Shape.idx_ext₂ ?_ rfl)
    show d.val * 1024 + k.val = k.val + 1024 * d.val
    omega
  simp only [hU, hV]

/-! ## The kernel's value -/

section Value

variable (m : (ℓ : Loc nD τ sig) → Buf (Elt Ideal) ℓ)

/-- A device's part of device `j`'s rows: two layers over the device's own hidden units. -/
theorem part_eq (d j : Dev nD) (r : Fin 128) (c : Fin 512) :
    part m d j (ix2 r c) = layers (block (xs m d) j) (w1 m d) (w2 m d) r c := by
  unfold part k0_pay10 k0_pay1 k0_pay2
  simp only [shapeCast_self]
  show FloatOps.matmul (DotDims.plain 128 1024 512) none _ _ _ (ix2 r c) = _
  rw [Ideal.matmul_plain_apply]
  refine (congrArg₂ (· + ·) Ideal.ofBits_zero_f32 rfl).trans ((zero_add _).trans (Finset.sum_congr rfl fun k _ => ?_))
  refine congrArg (· * w2 m d (ix2 k c)) (congrArg₂ max ?_ Ideal.ofBits_zero_f32)
  show FloatOps.matmul (DotDims.plain 128 512 1024) none _ _ _ (ix2 r k) = _
  rw [Ideal.matmul_plain_apply]
  exact (congrArg₂ (· + ·) Ideal.ofBits_zero_f32 rfl).trans (zero_add _)

/-- A sum over the four devices, taken from one of them backwards around the ring. -/
theorem ring_sum (f : Dev nD → EReal) (j : Dev nD) : f j + f (bk 0 j) + f (bk 1 j) + f (bk 2 j) = ∑ d, f d := by
  rw [Fin.sum_univ_four]
  fin_cases j
  · show f 0 + f 3 + f 2 + f 1 = _; abel
  · show f 1 + f 0 + f 3 + f 2 = _; abel
  · show f 2 + f 1 + f 0 + f 3 = _; abel
  · show f 3 + f 2 + f 1 + f 0 = _; abel

/-- What device `j` reduces its rows to: the sum of all four devices' parts of them. -/
theorem acc_eq (j : Dev nD) (y : S128x512.Idx) : acc m j y = ∑ d, part m d j y := by
  rw [← ring_sum (fun d => part m d j y) j]
  unfold acc acc₂ k0_pay12 k0_pay11 sent
  simp only [shapeCast_shapeCast, shapeCast_self, sh_bk]
  rfl

/-- Every device ends with these same rows: rounding them on the way changes nothing. -/
theorem rowsOf_eq (c j : Dev nD) (y : S128x512.Idx) : rowsOf m c j y = ∑ d, part m d j y := by
  rw [← acc_eq]
  unfold rowsOf
  split
  · rename_i h; rw [h]
  · unfold red k0_pay13 k0_pay14
    simp only [shapeCast_shapeCast, shapeCast_self]
    rfl

/-- THE KERNEL'S VALUE. When every device holds all of `X` and its own quarter of the hidden units' weights `U` and `V`,
    every device's result is the two layers over all the hidden units. -/
theorem out_eq (X : S512x512.Idx → EReal) (U : SU.Idx → EReal) (V : SV.Idx → EReal)
    (hX : ∀ d : Dev nD, m ((d : Thread nD τ).loc main_arg0) = X)
    (hU : ∀ d : Dev nD, m ((d : Thread nD τ).loc main_arg1) = Layout.block S512x1024 SU 1 4 d U)
    (hV : ∀ d : Dev nD, m ((d : Thread nD τ).loc main_arg2) = Layout.block S1024x512 SV 0 4 d V) (c : Dev nD) :
    outAt m c = fun i => layers X U V (i 0) (i 1) := by
  funext i
  obtain ⟨j, -, hi⟩ := Finset.mem_biUnion.mp (rows_cover.symm ▸ Finset.mem_univ i)
  rw [← Rect.map_emb_univ, Finset.mem_map] at hi
  obtain ⟨y, -, rfl⟩ := hi
  rw [outAt_rows, rowsOf_eq]
  obtain ⟨r, k, rfl⟩ : ∃ (r : Fin 128) (k : Fin 512), y = ix2 r k := ⟨y 0, y 1, eq_ix2 y⟩
  simp only [part_eq, xs_eq, w1_eq, w2_eq, hX, hU, hV]
  rw [layers_split]
  unfold layers block
  have hr (l : Fin 512) : (rowsR j).emb (ix2 r l) = ix2 ((rowsR j).emb (ix2 r k) 0) l :=
    Shape.idx_ext₂ rfl (show 0 + 1 * l.val = l.val by omega)
  have hk : k = (rowsR j).emb (ix2 r k) 1 := Fin.ext (show k.val = 0 + 1 * k.val by omega)
  refine Finset.sum_congr rfl fun u _ => congrArg₂ (· * ·) (congrArg (max · 0) ?_) (congrArg V (congrArg (ix2 u) hk))
  exact Finset.sum_congr rfl fun l _ => congrArg (· * U (ix2 l u)) (congrArg X (hr l))

end Value

end Cert.TwoLayer

end
-- ==== Proof.Algebra.lean ====
/-
The reference's value over the extended reals, and the value claim.

The reference multiplies by all 4096 hidden units at once; over the extended reals its two products are the same sums.
-/
module

public import proofs.«01_k».proof.Defs
public import proofs.«01_k».proof.Proof.Frames
public import proofs.«01_k».proof.Proof.Value
public import Idealize.ShloMosaic.Lib.StackMember
public import Idealize.ShloMosaic.Lib.IdealHost

@[expose] public section

noncomputable section

namespace Cert.TwoLayer

open Idealize.ShloMosaic
open Idealize.ShloMosaic.TcCoe
open Idealize.SL.Sem
open Idealize.ShloMosaic.ValueIdx
open scoped BigOperators

/-! ## The reference -/

section Reference

open Cert.ReferenceIdeal Cert.ReferenceIdeal.Gen

/-- What the reference's operations compute of its three arguments. -/
abbrev refTerm (X : FVec Ideal S512x512 .bf16) (U : FVec Ideal S512x4096 .bf16) (V : FVec Ideal S4096x512 .bf16) : FVec Ideal S512x512 .f32 :=
  extf .f32 (truncf .bf16 (Host.dotGeneral dot_S512x4096_S4096x512_S512x512_1_0_0_1_n_n none
    (maximumf (truncf .bf16 (Host.dotGeneral dot_S512x512_S512x4096_S512x4096_1_0_0_1_n_n none X U) bitsLt_bf16_f32)
      (broadcastInDim S512x4096 ![] bcast_S_S512x4096 (constant S_ .bf16 0x0000#16))) V) bitsLt_bf16_f32) bitsLt_bf16_f32

/-- It is the two layers over all the hidden units. -/
theorem ref_eq (X : FVec Ideal S512x512 .bf16) (U : FVec Ideal S512x4096 .bf16) (V : FVec Ideal S4096x512 .bf16) :
    refTerm X U V = fun i => layers X U V (i 0) (i 1) := by
  funext i
  obtain ⟨r, c, rfl⟩ : ∃ (r : Fin 512) (c : Fin 512), i = ix2 r c := ⟨i 0, i 1, eq_ix2 i⟩
  show Host.dotGeneral (DotDims.plain 512 4096 512) none _ V (ix2 r c) = _
  rw [StackMember.dotGeneral_plain_apply]
  refine Finset.sum_congr rfl fun k _ => congrArg (· * V (ix2 k c)) (congrArg₂ max ?_ Ideal.ofBits_zero_bf16)
  show Host.dotGeneral (DotDims.plain 512 512 4096) none X U (ix2 r k) = _
  rw [StackMember.dotGeneral_plain_apply]

end Reference

/-! ## The claim -/

section Claim

attribute [local instance] Cert.KernelIdeal.Gen.facts Cert.ReferenceIdeal.Gen.facts

/-- Over the extended reals, on operands cut from the same three arrays, every device's result is the reference's. -/
theorem algebraic : Cert.algebraic_KernelIdeal_ReferenceIdeal := by
  intro m ρ m' ρ' _ hag
  refine ⟨refTerm _ _ _, ?_, (θ_run Cert.ReferenceIdeal.defs _ _).mono (fun _ h => h 0)
    (Cert.ReferenceIdeal.Value.run (F := Ideal) m' ρ')⟩
  refine (θ_run Cert.KernelIdeal.defs _ _).mono (fun _ h c => ⟨?_, (h.1 c (0 : Fin 4)).trans (left_0 m ρ c),
    (h.1 c (1 : Fin 4)).trans (left_1 m ρ c), (h.1 c (2 : Fin 4)).trans (left_2 m ρ c)⟩) (run_main (F := Ideal) m ρ)
  rw [ref_eq]
  exact (h.1 c (3 : Fin 4)).trans ((left_3 m ρ c).trans
    (out_eq m _ _ _ (fun d => (hag d).1) (fun d => (hag d).2.1) (fun d => (hag d).2.2) c))

end Claim

end Cert.TwoLayer

end
-- ==== Proof.lean ====
/-
The claims about the two-layer kernel, put together: the kernel's frames (over bit patterns and over the extended reals),
the reference's, the reading of the kernel over the extended reals, which rewrote nothing, and that over them the kernel
computes what the reference does.
-/
module

public import proofs.«01_k».proof.Defs
public import proofs.«01_k».proof.Proof.Frames
public import proofs.«01_k».proof.Proof.Algebra
public import proofs.«01_k».proof.Proof.Gen.Kernel
public import proofs.«01_k».proof.Proof.Gen.KernelIdeal
public import proofs.«01_k».proof.Proof.Gen.ReferenceIdeal

@[expose] public section

noncomputable section

namespace Cert.Proof

/-- Everything that is claimed. -/
theorem claim : Cert.Claim :=
  ⟨Cert.Kernel.Gen.facts, Cert.KernelIdeal.Gen.facts, Cert.ReferenceIdeal.Gen.facts,
    Cert.TwoLayer.frame_bits, Cert.TwoLayer.frame_ideal, Cert.TwoLayer.frame_ref, trivial,
    Cert.TwoLayer.algebraic⟩

end Cert.Proof

end
